-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x16x128 : Shape := ⟨3, ![32, 16, 128]⟩
abbrev S32x16x1024 : Shape := ⟨3, ![32, 16, 1024]⟩
abbrev S128x128 : Shape := ⟨2, ![128, 128]⟩
abbrev S128 : Shape := ⟨1, ![128]⟩
abbrev S1x1024x128 : Shape := ⟨3, ![1, 1024, 128]⟩
abbrev S97x128 : Shape := ⟨2, ![97, 128]⟩
abbrev S97 : Shape := ⟨1, ![97]⟩
abbrev S_ : Shape := ⟨0, ![]⟩

class Facts : Prop where
  bcast_S_S32x16x128 : S_.BroadcastsInDim S32x16x128 (![] : Fin 0 → Fin S32x16x128.rank)
  reducesTo_S32x16x128_S_d0_1_2 : S32x16x128.ReducesTo [0, 1, 2] S_
  h_S_ : 0 < S_.numel
  bcast_S_S32x16x1024 : S_.BroadcastsInDim S32x16x1024 (![] : Fin 0 → Fin S32x16x1024.rank)
  reducesTo_S32x16x1024_S_d0_1_2 : S32x16x1024.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x1024x128 : S_.BroadcastsInDim S1x1024x128 (![] : Fin 0 → Fin S1x1024x128.rank)
  reducesTo_S1x1024x128_S_d0_1_2 : S1x1024x128.ReducesTo [0, 1, 2] S_
  bcast_S_S97x128 : S_.BroadcastsInDim S97x128 (![] : Fin 0 → Fin S97x128.rank)
  reducesTo_S97x128_S_d0_1 : S97x128.ReducesTo [0, 1] S_
  bcast_S_S97 : S_.BroadcastsInDim S97 (![] : Fin 0 → Fin S97.rank)
  reducesTo_S97_S_d0 : S97.ReducesTo [0] S_

variable [Facts]

def fn_part1 {F : FTy → Type} [FloatOps F] (main_arg4 : FVec F S1x1024x128 .f32) (main_arg5 : FVec F S97x128 .f32) (main_arg6 : FVec F S97 .f32) (main_v12 : IVec S_ 1) (main_v15 : IVec S128 1) (main_c_5 : IVec S_ 1) : IVec S_ 1 :=
  let main_v16 : IVec S_ 1 := (fun x v => Host.reduce IntOp.andi x v reducesTo_S128_S_d0 h_S_) main_v15 main_c_5
  let main_v17 : IVec S_ 1 := andi main_v12 main_v16
  let main_v18 : FVec F S1x1024x128 .f32 := Host.absf main_arg4
  let main_cst_6 : FVec F S_ .f32 := constant S_ .f32 0x7F800000#32
  let main_v19 : FVec F S1x1024x128 .f32 := broadcastInDim S1x1024x128 ![] bcast_S_S1x1024x128 main_cst_6
  let main_v20 : IVec S1x1024x128 1 := cmpf .olt main_v18 main_v19
  let main_c_7 : IVec S_ 1 := constantI S_ 1 1#1
  let main_v21 : IVec S_ 1 := (fun x v => Host.reduce IntOp.andi x v reducesTo_S1x1024x128_S_d0_1_2 h_S_) main_v20 main_c_7
  let main_v22 : IVec S_ 1 := andi main_v17 main_v21
  let main_v23 : FVec F S97x128 .f32 := Host.absf main_arg5
  let main_cst_8 : FVec F S_ .f32 := constant S_ .f32 0x7F800000#32
  let main_v24 : FVec F S97x128 .f32 := broadcastInDim S97x128 ![] bcast_S_S97x128 main_cst_8
  let main_v25 : IVec S97x128 1 := cmpf .olt main_v23 main_v24
  let main_c_9 : IVec S_ 1 := constantI S_ 1 1#1
  let main_v26 : IVec S_ 1 := (fun x v => Host.reduce IntOp.andi x v reducesTo_S97x128_S_d0_1 h_S_) main_v25 main_c_9
  let main_v27 : IVec S_ 1 := andi main_v22 main_v26
  let main_v28 : FVec F S97 .f32 := Host.absf main_arg6
  let main_cst_10 : FVec F S_ .f32 := constant S_ .f32 0x7F800000#32
  let main_v29 : FVec F S97 .f32 := broadcastInDim S97 ![] bcast_S_S97 main_cst_10
  let main_v30 : IVec S97 1 := cmpf .olt main_v28 main_v29
  let main_c_11 : IVec S_ 1 := constantI S_ 1 1#1
  let main_v31 : IVec S_ 1 := (fun x v => Host.reduce IntOp.andi x v reducesTo_S97_S_d0 h_S_) main_v30 main_c_11
  let main_v32 : IVec S_ 1 := andi main_v27 main_v31
  main_v32

def fn {F : FTy → Type} [FloatOps F] (main_arg0 : FVec F S32x16x128 .f32) (main_arg1 : FVec F S32x16x1024 .f32) (main_arg2 : FVec F S128x128 .f32) (main_arg3 : FVec F S128 .f32) (main_arg4 : FVec F S1x1024x128 .f32) (main_arg5 : FVec F S97x128 .f32) (main_arg6 : FVec F S97 .f32) : IVec S_ 1 :=
  let main_v0 : FVec F S32x16x128 .f32 := Host.absf main_arg0
  let main_cst : FVec F S_ .f32 := constant S_ .f32 0x7F800000#32
  let main_v1 : FVec F S32x16x128 .f32 := broadcastInDim S32x16x128 ![] bcast_S_S32x16x128 main_cst
  let main_v2 : IVec S32x16x128 1 := cmpf .olt main_v0 main_v1
  let main_c : IVec S_ 1 := constantI S_ 1 1#1
  let main_v3 : IVec S_ 1 := (fun x v => Host.reduce IntOp.andi x v reducesTo_S32x16x128_S_d0_1_2 h_S_) main_v2 main_c
  let main_cst_0 : FVec F S_ .f32 := constant S_ .f32 0xFF800000#32
  let main_v4 : FVec F S32x16x1024 .f32 := broadcastInDim S32x16x1024 ![] bcast_S_S32x16x1024 main_cst_0
  let main_v5 : IVec S32x16x1024 1 := cmpf .ogt main_arg1 main_v4
  let main_c_1 : IVec S_ 1 := constantI S_ 1 1#1
  let main_v6 : IVec S_ 1 := (fun x v => Host.reduce IntOp.andi x v reducesTo_S32x16x1024_S_d0_1_2 h_S_) main_v5 main_c_1
  let main_v7 : IVec S_ 1 := andi main_v3 main_v6
  let main_v8 : FVec F S128x128 .f32 := Host.absf main_arg2
  let main_cst_2 : FVec F S_ .f32 := constant S_ .f32 0x7F800000#32
  let main_v9 : FVec F S128x128 .f32 := broadcastInDim S128x128 ![] bcast_S_S128x128 main_cst_2
  let main_v10 : IVec S128x128 1 := cmpf .olt main_v8 main_v9
  let main_c_3 : IVec S_ 1 := constantI S_ 1 1#1
  let main_v11 : IVec S_ 1 := (fun x v => Host.reduce IntOp.andi x v reducesTo_S128x128_S_d0_1 h_S_) main_v10 main_c_3
  let main_v12 : IVec S_ 1 := andi main_v7 main_v11
  let main_v13 : FVec F S128 .f32 := Host.absf main_arg3
  let main_cst_4 : FVec F S_ .f32 := constant S_ .f32 0x7F800000#32
  let main_v14 : FVec F S128 .f32 := broadcastInDim S128 ![] bcast_S_S128 main_cst_4
  let main_v15 : IVec S128 1 := cmpf .olt main_v13 main_v14
  let main_c_5 : IVec S_ 1 := constantI S_ 1 1#1
  fn_part1 (F := F) main_arg4 main_arg5 main_arg6 main_v12 main_v15 main_c_5
-- ==== Kernel.lean ====
abbrev S32x16x128 : Shape := ⟨3, ![32, 16, 128]⟩
abbrev S32x16x1024 : Shape := ⟨3, ![32, 16, 1024]⟩
abbrev S128x128 : Shape := ⟨2, ![128, 128]⟩
abbrev S128 : Shape := ⟨1, ![128]⟩
abbrev S1x1024x128 : Shape := ⟨3, ![1, 1024, 128]⟩
abbrev S97x128 : Shape := ⟨2, ![97, 128]⟩
abbrev S97 : Shape := ⟨1, ![97]⟩
abbrev S_ : Shape := ⟨0, ![]⟩
abbrev S1 : Shape := ⟨1, ![1]⟩
abbrev S128x1 : Shape := ⟨2, ![128, 1]⟩
abbrev S2 : Shape := ⟨1, ![2]⟩
abbrev S1024x128 : Shape := ⟨2, ![1024, 128]⟩
abbrev S1x128 : Shape := ⟨2, ![1, 128]⟩
abbrev S32x96x1024 : Shape := ⟨3, ![32, 96, 1024]⟩
abbrev S32x1024x96 : Shape := ⟨3, ![32, 1024, 96]⟩
abbrev S16x16x128 : Shape := ⟨3, ![16, 16, 128]⟩
abbrev S16x16x1024 : Shape := ⟨3, ![16, 16, 1024]⟩
abbrev S16x96x1024 : Shape := ⟨3, ![16, 96, 1024]⟩
abbrev S128x1024 : Shape := ⟨2, ![128, 1024]⟩
abbrev S256x128 : Shape := ⟨2, ![256, 128]⟩
abbrev S256x1 : Shape := ⟨2, ![256, 1]⟩
abbrev S16x16x1 : Shape := ⟨3, ![16, 16, 1]⟩
abbrev S16x1024 : Shape := ⟨2, ![16, 1024]⟩
abbrev S16x1x1024 : Shape := ⟨3, ![16, 1, 1024]⟩
abbrev S96x1024 : Shape := ⟨2, ![96, 1024]⟩
abbrev S16x96 : Shape := ⟨2, ![16, 96]⟩
abbrev S1x16x1024 : Shape := ⟨3, ![1, 16, 1024]⟩
abbrev S1x96x1024 : Shape := ⟨3, ![1, 96, 1024]⟩

abbrev nBuf : Space → Nat
  | .hbm => 25
  | .vmem => 14
  | .smem => 0
  | _ => 0

abbrev bufTy : (tb : Table) → Fin (tcTables nBuf tb) → BufTy
  | .hbm, ⟨0, _⟩ => ⟨S32x16x128, .f32⟩
  | .hbm, ⟨1, _⟩ => ⟨S32x16x1024, .f32⟩
  | .hbm, ⟨2, _⟩ => ⟨S128x128, .f32⟩
  | .hbm, ⟨3, _⟩ => ⟨S128, .f32⟩
  | .hbm, ⟨4, _⟩ => ⟨S1x1024x128, .f32⟩
  | .hbm, ⟨5, _⟩ => ⟨S97x128, .f32⟩
  | .hbm, ⟨6, _⟩ => ⟨S97, .f32⟩
  | .hbm, ⟨7, _⟩ => ⟨S_, .f32⟩
  | .hbm, ⟨8, _⟩ => ⟨S128x128, .f32⟩
  | .hbm, ⟨9, _⟩ => ⟨S_, .i32⟩
  | .hbm, ⟨10, _⟩ => ⟨S1, .i32⟩
  | .hbm, ⟨11, _⟩ => ⟨S128x128, .f32⟩
  | .hbm, ⟨12, _⟩ => ⟨S_, .f32⟩
  | .hbm, ⟨13, _⟩ => ⟨S128x1, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S128x1, .f32⟩
  | .hbm, ⟨20, _⟩ => ⟨S1024x128, .f32⟩
  | .hbm, ⟨21, _⟩ => ⟨S1x128, .f32⟩
  | .hbm, ⟨22, _⟩ => ⟨S32x96x1024, .f32⟩
  | .hbm, ⟨23, _⟩ => ⟨S32x16x1024, .f32⟩
  | .hbm, ⟨24, _⟩ => ⟨S32x1024x96, .f32⟩
  | .local _ .vmem, ⟨0, _⟩ => ⟨S16x16x128, .f32⟩
  | .local _ .vmem, ⟨1, _⟩ => ⟨S16x16x128, .f32⟩
  | .local _ .vmem, ⟨2, _⟩ => ⟨S16x16x1024, .f32⟩
  | .local _ .vmem, ⟨3, _⟩ => ⟨S16x16x1024, .f32⟩
  | .local _ .vmem, ⟨4, _⟩ => ⟨S128x128, .f32⟩
  | .local _ .vmem, ⟨5, _⟩ => ⟨S1x128, .f32⟩
  | .local _ .vmem, ⟨6, _⟩ => ⟨S1024x128, .f32⟩
  | .local _ .vmem, ⟨7, _⟩ => ⟨S128x128, .f32⟩
  | .local _ .vmem, ⟨8, _⟩ => ⟨S128x1, .f32⟩
  | .local _ .vmem, ⟨9, _⟩ => ⟨S16x96x1024, .f32⟩
  | .local _ .vmem, ⟨10, _⟩ => ⟨S16x96x1024, .f32⟩
  | .local _ .vmem, ⟨11, _⟩ => ⟨S16x16x1024, .f32⟩
  | .local _ .vmem, ⟨12, _⟩ => ⟨S16x16x1024, .f32⟩
  | .local _ .vmem, ⟨13, _⟩ => ⟨S128x1024, .f32⟩
  | _, _ => ⟨S32x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_cst : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_cst_0 : Ref sig .tc := ⟨.hbm, 12, rfl⟩
abbrev main_call0_v3 : Ref sig .tc := ⟨.hbm, 13, rfl⟩
abbrev main_call0_c_1 : Ref sig .tc := ⟨.hbm, 14, rfl⟩
abbrev main_call0_v4 : Ref sig .tc := ⟨.hbm, 15, rfl⟩
abbrev main_call0_c_2 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10_0 : Ref sig .tc := ⟨.hbm, 22, rfl⟩
abbrev main_v0_1 : Ref sig .tc := ⟨.hbm, 23, rfl⟩
abbrev main_v0_0 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16x96x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x16x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S32x16x128 : Shape := ⟨3, ![32, 16, 128]⟩
abbrev S32x16x1024 : Shape := ⟨3, ![32, 16, 1024]⟩
abbrev S128x128 : Shape := ⟨2, ![128, 128]⟩
abbrev S128 : Shape := ⟨1, ![128]⟩
abbrev S1x1024x128 : Shape := ⟨3, ![1, 1024, 128]⟩
abbrev S97x128 : Shape := ⟨2, ![97, 128]⟩
abbrev S97 : Shape := ⟨1, ![97]⟩
abbrev S512x128 : Shape := ⟨2, ![512, 128]⟩
abbrev S1x128 : Shape := ⟨2, ![1, 128]⟩
abbrev S512x1x128 : Shape := ⟨3, ![512, 1, 128]⟩
abbrev S512x1024x128 : Shape := ⟨3, ![512, 1024, 128]⟩
abbrev S32x16x1024x128 : Shape := ⟨4, ![32, 16, 1024, 128]⟩
abbrev S32x1024x16 : Shape := ⟨3, ![32, 1024, 16]⟩
abbrev S32x1024x4 : Shape := ⟨3, ![32, 1024, 4]⟩
abbrev S32x4x1024 : Shape := ⟨3, ![32, 4, 1024]⟩
abbrev S32x4x1024x1 : Shape := ⟨4, ![32, 4, 1024, 1]⟩
abbrev S32x4x1024x128 : Shape := ⟨4, ![32, 4, 1024, 128]⟩
abbrev S_ : Shape := ⟨0, ![]⟩
abbrev S32x4x1024x128x1 : Shape := ⟨5, ![32, 4, 1024, 128, 1]⟩
abbrev S1 : Shape := ⟨1, ![1]⟩
abbrev S1x1x1x1x1 : Shape := ⟨5, ![1, 1, 1, 1, 1]⟩
abbrev S128x1024x128 : Shape := ⟨3, ![128, 1024, 128]⟩
abbrev S128x97 : Shape := ⟨2, ![128, 97]⟩
abbrev S128x1024x97 : Shape := ⟨3, ![128, 1024, 97]⟩
abbrev S1x1x97 : Shape := ⟨3, ![1, 1, 97]⟩
abbrev S32x4x1024x97 : Shape := ⟨4, ![32, 4, 1024, 97]⟩
abbrev S32x4x1024x96 : Shape := ⟨4, ![32, 4, 1024, 96]⟩
abbrev S32x1024x1 : Shape := ⟨3, ![32, 1024, 1]⟩
abbrev S32x1x1024x1 : Shape := ⟨4, ![32, 1, 1024, 1]⟩
abbrev S32x1024x96 : Shape := ⟨3, ![32, 1024, 96]⟩
abbrev S32 : Shape := ⟨1, ![32]⟩
abbrev S32x1x1 : Shape := ⟨3, ![32, 1, 1]⟩
abbrev S1024 : Shape := ⟨1, ![1024]⟩
abbrev S1x1x1024 : Shape := ⟨3, ![1, 1, 1024]⟩
abbrev S32x4x1024x3 : Shape := ⟨4, ![32, 4, 1024, 3]⟩

abbrev nBuf : Space → Nat
  | .hbm => 108
  | .vmem => 0
  | .smem => 0
  | _ => 0

abbrev bufTy : (tb : Table) → Fin (tcTables nBuf tb) → BufTy
  | .hbm, ⟨0, _⟩ => ⟨S32x16x128, .f32⟩
  | .hbm, ⟨1, _⟩ => ⟨S32x16x1024, .f32⟩
  | .hbm, ⟨2, _⟩ => ⟨S128x128, .f32⟩
  | .hbm, ⟨3, _⟩ => ⟨S128, .f32⟩
  | .hbm, ⟨4, _⟩ => ⟨S1x1024x128, .f32⟩
  | .hbm, ⟨5, _⟩ => ⟨S97x128, .f32⟩
  | .hbm, ⟨6, _⟩ => ⟨S97, .f32⟩
  | .hbm, ⟨7, _⟩ => ⟨S512x128, .f32⟩
  | .hbm, ⟨8, _⟩ => ⟨S128x128, .f32⟩
  | .hbm, ⟨9, _⟩ => ⟨S512x128, .f32⟩
  | .hbm, ⟨10, _⟩ => ⟨S1x128, .f32⟩
  | .hbm, ⟨11, _⟩ => ⟨S512x128, .f32⟩
  | .hbm, ⟨12, _⟩ => ⟨S512x128, .f32⟩
  | .hbm, ⟨13, _⟩ => ⟨S512x1x128, .f32⟩
  | .hbm, ⟨14, _⟩ => ⟨S512x1024x128, .f32⟩
  | .hbm, ⟨15, _⟩ => ⟨S512x1024x128, .f32⟩
  | .hbm, ⟨16, _⟩ => ⟨S512x1024x128, .f32⟩
  | .hbm, ⟨17, _⟩ => ⟨S32x16x1024x128, .f32⟩
  | .hbm, ⟨18, _⟩ => ⟨S32x1024x16, .f32⟩
  | .hbm, ⟨19, _⟩ => ⟨S32x1024x4, .f32⟩
  | .hbm, ⟨20, _⟩ => ⟨S32x1024x4, .i32⟩
  | .hbm, ⟨21, _⟩ => ⟨S32x4x1024, .i32⟩
  | .hbm, ⟨22, _⟩ => ⟨S32x4x1024x1, .i32⟩
  | .hbm, ⟨23, _⟩ => ⟨S32x4x1024x128, .i32⟩
  | .hbm, ⟨24, _⟩ => ⟨S_, .i32⟩
  | .hbm, ⟨25, _⟩ => ⟨S32x4x1024x128, .i32⟩
  | .hbm, ⟨26, _⟩ => ⟨S32x4x1024x128, .i1⟩
  | .hbm, ⟨27, _⟩ => ⟨S_, .i32⟩
  | .hbm, ⟨28, _⟩ => ⟨S32x4x1024x128, .i32⟩
  | .hbm, ⟨29, _⟩ => ⟨S32x4x1024x128, .i32⟩
  | .hbm, ⟨30, _⟩ => ⟨S32x4x1024x128, .i32⟩
  | .hbm, ⟨31, _⟩ => ⟨S32x4x1024x128x1, .i32⟩
  | .hbm, ⟨32, _⟩ => ⟨S1, .i32⟩
  | .hbm, ⟨33, _⟩ => ⟨S_, .i32⟩
  | .hbm, ⟨34, _⟩ => ⟨S32x4x1024x128x1, .i32⟩
  | .hbm, ⟨35, _⟩ => ⟨S32x4x1024x128x1, .i1⟩
  | .hbm, ⟨36, _⟩ => ⟨S1x1x1x1x1, .i32⟩
  | .hbm, ⟨37, _⟩ => ⟨S32x4x1024x128x1, .i32⟩
  | .hbm, ⟨38, _⟩ => ⟨S32x4x1024x128x1, .i1⟩
  | .hbm, ⟨39, _⟩ => ⟨S32x4x1024x128x1, .i1⟩
  | .hbm, ⟨40, _⟩ => ⟨S_, .i1⟩
  | .hbm, ⟨41, _⟩ => ⟨S32x4x1024x128, .i1⟩
  | .hbm, ⟨42, _⟩ => ⟨S32x4x1024x128, .f32⟩
  | .hbm, ⟨43, _⟩ => ⟨S_, .f32⟩
  | .hbm, ⟨44, _⟩ => ⟨S32x4x1024x128, .f32⟩
  | .hbm, ⟨45, _⟩ => ⟨S32x4x1024x128, .f32⟩
  | .hbm, ⟨46, _⟩ => ⟨S128x1024x128, .f32⟩
  | .hbm, ⟨47, _⟩ => ⟨S128x97, .f32⟩
  | .hbm, ⟨48, _⟩ => ⟨S128x1024x97, .f32⟩
  | .hbm, ⟨49, _⟩ => ⟨S1x1x97, .f32⟩
  | .hbm, ⟨50, _⟩ => ⟨S128x1024x97, .f32⟩
  | .hbm, ⟨51, _⟩ => ⟨S128x1024x97, .f32⟩
  | .hbm, ⟨52, _⟩ => ⟨S32x4x1024x97, .f32⟩
  | .hbm, ⟨53, _⟩ => ⟨S32x4x1024x96, .f32⟩
  | .hbm, ⟨54, _⟩ => ⟨S32x4x1024x1, .f32⟩
  | .hbm, ⟨55, _⟩ => ⟨S_, .f32⟩
  | .hbm, ⟨56, _⟩ => ⟨S32x1024x1, .f32⟩
  | .hbm, ⟨57, _⟩ => ⟨S_, .f32⟩
  | .hbm, ⟨58, _⟩ => ⟨S32x1024x1, .f32⟩
  | .hbm, ⟨59, _⟩ => ⟨S32x1024x1, .f32⟩
  | .hbm, ⟨60, _⟩ => ⟨S32x1x1024x1, .f32⟩
  | .hbm, ⟨61, _⟩ => ⟨S32x4x1024x1, .f32⟩
  | .hbm, ⟨62, _⟩ => ⟨S32x4x1024x1, .f32⟩
  | .hbm, ⟨63, _⟩ => ⟨S32x4x1024x1, .f32⟩
  | .hbm, ⟨64, _⟩ => ⟨S_, .f32⟩
  | .hbm, ⟨65, _⟩ => ⟨S32x1024x1, .f32⟩
  | .hbm, ⟨66, _⟩ => ⟨S32x1x1024x1, .f32⟩
  | .hbm, ⟨67, _⟩ => ⟨S32x4x1024x1, .f32⟩
  | .hbm, ⟨68, _⟩ => ⟨S32x4x1024x1, .f32⟩
  | .hbm, ⟨69, _⟩ => ⟨S32x4x1024x96, .f32⟩
  | .hbm, ⟨70, _⟩ => ⟨S32x4x1024x96, .f32⟩
  | .hbm, ⟨71, _⟩ => ⟨S_, .f32⟩
  | .hbm, ⟨72, _⟩ => ⟨S32x1024x96, .f32⟩
  | .hbm, ⟨73, _⟩ => ⟨S32x4x1024, .f32⟩
  | .hbm, ⟨74, _⟩ => ⟨S32, .i32⟩
  | .hbm, ⟨75, _⟩ => ⟨S32x1x1, .i32⟩
  | .hbm, ⟨76, _⟩ => ⟨S1024, .i32⟩
  | .hbm, ⟨77, _⟩ => ⟨S1x1x1024, .i32⟩
  | .hbm, ⟨78, _⟩ => ⟨S_, .f32⟩
  | .hbm, ⟨79, _⟩ => ⟨S32x16x1024, .f32⟩
  | .hbm, ⟨80, _⟩ => ⟨S_, .i32⟩
  | .hbm, ⟨81, _⟩ => ⟨S32x1x1, .i32⟩
  | .hbm, ⟨82, _⟩ => ⟨S32x1x1, .i1⟩
  | .hbm, ⟨83, _⟩ => ⟨S_, .i32⟩
  | .hbm, ⟨84, _⟩ => ⟨S32x1x1, .i32⟩
  | .hbm, ⟨85, _⟩ => ⟨S32x1x1, .i32⟩
  | .hbm, ⟨86, _⟩ => ⟨S32x1x1, .i32⟩
  | .hbm, ⟨87, _⟩ => ⟨S_, .i32⟩
  | .hbm, ⟨88, _⟩ => ⟨S32x4x1024, .i32⟩
  | .hbm, ⟨89, _⟩ => ⟨S32x4x1024, .i1⟩
  | .hbm, ⟨90, _⟩ => ⟨S_, .i32⟩
  | .hbm, ⟨91, _⟩ => ⟨S32x4x1024, .i32⟩
  | .hbm, ⟨92, _⟩ => ⟨S32x4x1024, .i32⟩
  | .hbm, ⟨93, _⟩ => ⟨S32x4x1024, .i32⟩
  | .hbm, ⟨94, _⟩ => ⟨S_, .i32⟩
  | .hbm, ⟨95, _⟩ => ⟨S1x1x1024, .i32⟩
  | .hbm, ⟨96, _⟩ => ⟨S1x1x1024, .i1⟩
  | .hbm, ⟨97, _⟩ => ⟨S_, .i32⟩
  | .hbm, ⟨98, _⟩ => ⟨S1x1x1024, .i32⟩
  | .hbm, ⟨99, _⟩ => ⟨S1x1x1024, .i32⟩
  | .hbm, ⟨100, _⟩ => ⟨S1x1x1024, .i32⟩
  | .hbm, ⟨101, _⟩ => ⟨S32x4x1024, .i32⟩
  | .hbm, ⟨102, _⟩ => ⟨S32x4x1024, .i32⟩
  | .hbm, ⟨103, _⟩ => ⟨S32x4x1024x1, .i32⟩
  | .hbm, ⟨104, _⟩ => ⟨S32x4x1024x1, .i32⟩
  | .hbm, ⟨105, _⟩ => ⟨S32x4x1024x1, .i32⟩
  | .hbm, ⟨106, _⟩ => ⟨S32x4x1024x3, .i32⟩
  | .hbm, ⟨107, _⟩ => ⟨S32x16x1024, .f32⟩
  | _, _ => ⟨S32x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_values : Ref sig .tc := ⟨.hbm, 19, rfl⟩
abbrev main_indices : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_cst : Ref sig .tc := ⟨.hbm, 43, rfl⟩
abbrev main_call0_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_cst : Ref sig .tc := ⟨.hbm, 55, rfl⟩
abbrev main_v25 : Ref sig .tc := ⟨.hbm, 56, rfl⟩
abbrev main_cst_0 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_1 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst_2 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_3 : Ref sig .tc := ⟨.hbm, 78, rfl⟩
abbrev main_v44 : Ref sig .tc := ⟨.hbm, 79, rfl⟩
abbrev main_c : Ref sig .tc := ⟨.hbm, 80, rfl⟩
abbrev main_v45 : Ref sig .tc := ⟨.hbm, 81, rfl⟩
abbrev main_v46 : Ref sig .tc := ⟨.hbm, 82, rfl⟩
abbrev main_c_4 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_c_5 : Ref sig .tc := ⟨.hbm, 87, rfl⟩
abbrev main_v50 : Ref sig .tc := ⟨.hbm, 88, rfl⟩
abbrev main_v51 : Ref sig .tc := ⟨.hbm, 89, rfl⟩
abbrev main_c_6 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_c_7 : Ref sig .tc := ⟨.hbm, 94, rfl⟩
abbrev main_v55 : Ref sig .tc := ⟨.hbm, 95, rfl⟩
abbrev main_v56 : Ref sig .tc := ⟨.hbm, 96, rfl⟩
abbrev main_c_8 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩

abbrev nD : Nat := 1
abbrev τ : Topo := Topo.v7x

variable {F : FTy → Type} [FloatOps F]
-- ==== Proof.Pick.lean ====
/-
  THE FOUR ROUNDS OF PICKING. A column of sixteen extended reals is read four times: each round takes the first position
  that holds the column's greatest value and strikes it out with -∞. When no value of the column is -∞ these four positions
  are the first four of the column sorted in descending order, equal values kept in the order of their positions.
-/
module

public import Idealize.ShloMosaic.Lib.SortPrefix
public import Idealize.ShloMosaic.Lib.PlanTiles.StableSort
public import Mathlib.Data.EReal.Basic
public import Mathlib.Data.Finset.Max

@[expose] public section

namespace Cert.Pick

open Idealize.ShloMosaic

/-- Some position holds the greatest value of the column. -/
theorem exists_top (c : Fin 16 → EReal) : (Finset.univ.filter fun k => ∀ j, c j ≤ c k).Nonempty := by
  obtain ⟨k, -, hk⟩ := Finset.exists_max_image Finset.univ c Finset.univ_nonempty
  exact ⟨k, by simpa using hk⟩

/-- The first position that holds the greatest value of the column. -/
noncomputable def first (c : Fin 16 → EReal) : Fin 16 := (Finset.univ.filter fun k => ∀ j, c j ≤ c k).min' (exists_top c)

/-- No value of the column is above the one at `first`. -/
theorem le_first (c : Fin 16 → EReal) (j : Fin 16) : c j ≤ c (first c) := by
  have h := Finset.min'_mem _ (exists_top c)
  rw [Finset.mem_filter] at h
  exact h.2 j

/-- No earlier position holds the greatest value. -/
theorem first_le (c : Fin 16 → EReal) (k : Fin 16) (hk : ∀ j, c j ≤ c k) : first c ≤ k :=
  Finset.min'_le _ k (by simpa using hk)

/-- A position that holds the greatest value, with none before it that does, is `first`. -/
theorem first_eq (c : Fin 16 → EReal) (k : Fin 16) (hk : ∀ j, c j ≤ c k) (hl : ∀ i, (∀ j, c j ≤ c i) → k ≤ i) : first c = k :=
  le_antisymm (first_le c k hk) (hl _ (le_first c))

/-- The column with position `k` struck out. -/
noncomputable def strike (c : Fin 16 → EReal) (k : Fin 16) : Fin 16 → EReal := fun j => if j = k then ⊥ else c j

/-- The column after `n` rounds. -/
noncomputable def work (m : Fin 16 → EReal) : ℕ → Fin 16 → EReal
  | 0 => m
  | n + 1 => strike (work m n) (first (work m n))

/-- The position picked in round `n`. -/
noncomputable def pick (m : Fin 16 → EReal) (n : ℕ) : Fin 16 := first (work m n)

/-- After `n` rounds the positions picked so far hold -∞, the others what they held. -/
theorem work_eq (m : Fin 16 → EReal) (n : ℕ) (j : Fin 16) : work m n j = if ∃ i, i < n ∧ pick m i = j then ⊥ else m j := by
  induction n with
  | zero => simp [work]
  | succ n ih =>
    show (if j = first (work m n) then ⊥ else work m n j) = _
    by_cases hj : j = first (work m n)
    · rw [if_pos hj, if_pos ⟨n, Nat.lt_succ_self n, hj.symm⟩]
    · rw [if_neg hj, ih]
      refine if_congr ⟨fun ⟨i, hi, h⟩ => ⟨i, by omega, h⟩, fun ⟨i, hi, h⟩ => ?_⟩ rfl rfl
      rcases Nat.lt_succ_iff_lt_or_eq.mp hi with h' | rfl
      · exact ⟨i, h', h⟩
      · exact absurd h.symm hj

/-- A position not picked in the first `n` rounds holds what it held. -/
theorem work_of_unpicked (m : Fin 16 → EReal) (n : ℕ) (p : Fin 16) (hp : ∀ i, i < n → pick m i ≠ p) : work m n p = m p := by
  rw [work_eq, if_neg]
  rintro ⟨i, hi, h⟩
  exact hp i hi h

section Above

variable (m : Fin 16 → EReal) (hm : ∀ k, ⊥ < m k)
include hm

/-- Before the sixteenth round some position has not been picked. -/
theorem exists_unpicked (n : ℕ) (hn : n < 16) : ∃ p, ∀ i, i < n → pick m i ≠ p := by
  by_contra h
  push Not at h
  have hs : (Finset.univ : Finset (Fin 16)) ⊆ (Finset.range n).image (pick m) := fun p _ => by
    obtain ⟨i, hi, e⟩ := h p
    exact Finset.mem_image.mpr ⟨i, Finset.mem_range.mpr hi, e⟩
  have := (Finset.card_le_card hs).trans Finset.card_image_le
  rw [Finset.card_range, Finset.card_univ, Fintype.card_fin] at this
  omega

/-- A round picks a position not picked before. -/
theorem pick_ne (n : ℕ) (hn : n < 16) (i : ℕ) (hi : i < n) : pick m i ≠ pick m n := by
  intro e
  obtain ⟨p, hp⟩ := exists_unpicked m hm n hn
  have h1 : work m n (pick m n) = ⊥ := by rw [work_eq, if_pos ⟨i, hi, e⟩]
  have h2 := le_first (work m n) p
  rw [work_of_unpicked m n p hp] at h2
  change m p ≤ work m n (pick m n) at h2
  rw [h1] at h2
  exact absurd (hm p) (not_lt.mpr h2)

/-- The position a round picks still held its value. -/
theorem work_pick (n : ℕ) (hn : n < 16) : work m n (pick m n) = m (pick m n) :=
  work_of_unpicked m n _ fun i hi => pick_ne m hm n hn i hi

/-- A position not picked before a round holds no greater value than the one picked, and is not before it if equal. -/
theorem pick_best (n : ℕ) (hn : n < 16) (p : Fin 16) (hp : ∀ i, i < n → pick m i ≠ p) :
    m p ≤ m (pick m n) ∧ (m p = m (pick m n) → pick m n ≤ p) := by
  have hw := work_of_unpicked m n p hp
  refine ⟨?_, fun e => ?_⟩
  · rw [← hw, ← work_pick m hm n hn]; exact le_first _ p
  · refine first_le _ p fun j => ?_
    rw [hw, e, ← work_pick m hm n hn]
    exact le_first _ j

/-- The four picks, as a function of the round. -/
theorem pick_injective : Function.Injective fun r : Fin 4 => pick m r.val := by
  intro a b hab
  have hab : pick m a.val = pick m b.val := hab
  rcases lt_trichotomy a.val b.val with h | h | h
  · exact absurd hab (pick_ne m hm b.val (by omega) a.val h)
  · exact Fin.ext h
  · exact absurd hab.symm (pick_ne m hm a.val (by omega) b.val h)

end Above

/-! ## The stable descending sort -/

/-- How many positions hold a smaller value. -/
noncomputable def rank (m : Fin 16 → EReal) (k : Fin 16) : ℕ := (Finset.univ.filter fun j => m j < m k).card

/-- A position's rank is the smaller exactly when its value is. -/
theorem rank_lt_iff (m : Fin 16 → EReal) (a b : Fin 16) : rank m a < rank m b ↔ m a < m b := by
  constructor
  · intro h
    by_contra hn
    refine absurd h (not_lt.mpr (Finset.card_le_card fun j hj => ?_))
    rw [Finset.mem_filter] at hj ⊢
    exact ⟨hj.1, hj.2.trans_le (not_lt.mp hn)⟩
  · intro h
    refine Finset.card_lt_card ⟨fun j hj => ?_, fun hs => ?_⟩
    · rw [Finset.mem_filter] at hj ⊢
      exact ⟨hj.1, hj.2.trans h⟩
    · have := hs (Finset.mem_filter.mpr ⟨Finset.mem_univ a, h⟩)
      rw [Finset.mem_filter] at this
      exact absurd this.2 (lt_irrefl _)

/-- Greater value first, and of equal values the lower position. -/
noncomputable def ahead (m : Fin 16 → EReal) (a b : Fin 16) : Bool :=
  decide (m b < m a) || (decide (m a = m b) && decide (a < b))

/-- `ahead` orders the positions strictly and totally. -/
theorem ahead_total (m : Fin 16 → EReal) : StrictTotalBefore (ahead m) :=
  StrictTotalBefore.of_key_then_position (fun x y : EReal => decide (y < x)) m (fun a => by simp)
    (fun a b c h1 h2 => by
      simp only [decide_eq_true_eq] at h1 h2 ⊢
      exact h2.trans h1)
    (fun a b => by
      simp only [decide_eq_true_eq]
      rcases lt_trichotomy a b with h | h | h
      · exact Or.inr (Or.inr h)
      · exact Or.inr (Or.inl h)
      · exact Or.inl h)

/-- Equal lists hold the same element at the same place. -/
theorem get_cast {n : ℕ} {l l' : List (Fin n)} (h : l = l') (k : Fin n) (p : n = l.length) (p' : n = l'.length) :
    l.get (k.cast p) = l'.get (k.cast p') := by
  subst h; rfl

/-- The stable descending sort of the column leaves the positions in the order `ahead`. -/
theorem sortedFrom_desc (m : Fin 16 → EReal) : sortedFrom (fun a b => decide (m b < m a)) = sortedFrom (ahead m) := by
  have hf : (fun a b : Fin 16 => decide (m b < m a)) = fun a b => decide (rank m b < rank m a) := by
    funext a b; exact decide_eq_decide.mpr (rank_lt_iff m b a).symm
  have hl : sortPositions 16 (fun a b => decide (m b < m a)) = sortPositions 16 (ahead m) := by
    refine (ahead_total m).eq_stableSort_of_sorted (perm_sortPositions 16 _) ?_
    rw [hf]
    refine (PlanTiles.pairwise_stableSort_lex (rank m) (· < ·) (List.finRange 16) (List.pairwise_lt_finRange 16)).imp ?_
    intro a b hab
    simp only [ahead, Bool.or_eq_false_iff, Bool.and_eq_false_iff, decide_eq_false_iff_not]
    rcases hab with h | ⟨h, hp⟩
    · rw [rank_lt_iff] at h
      exact ⟨not_lt.mpr h.le, Or.inl h.ne⟩
    · have h1 : ¬m a < m b := by rw [← rank_lt_iff]; omega
      have h2 : ¬m b < m a := by rw [← rank_lt_iff]; omega
      exact ⟨h1, Or.inr (not_lt.mpr hp.le)⟩
  funext k
  exact get_cast hl k _ _

/-- THE FOUR ROUNDS PICK WHAT THE SORT PUTS FIRST: position `r` of the sorted column comes from the position of round `r`. -/
theorem sortedFrom_eq_pick (m : Fin 16 → EReal) (hm : ∀ k, ⊥ < m k) (r : Fin 4) :
    sortedFrom (fun a b => decide (m b < m a)) (r.castLE (by decide : 4 ≤ 16)) = pick m r.val := by
  rw [sortedFrom_desc]
  have key : ∀ (i : Fin 4) (p : Fin 16), (∀ j, j < i.val → pick m j ≠ p) → ahead m p (pick m i.val) = false := by
    intro i p hp
    obtain ⟨h1, h2⟩ := pick_best m hm i.val (by omega) p hp
    simp only [ahead, Bool.or_eq_false_iff, Bool.and_eq_false_iff, decide_eq_false_iff_not]
    refine ⟨not_lt.mpr h1, ?_⟩
    by_cases e : m p = m (pick m i.val)
    · exact Or.inr (not_lt.mpr (h2 e))
    · exact Or.inl e
  have ord : ∀ i j : Fin 4, i < j → ahead m (pick m j.val) (pick m i.val) = false := fun i j hij =>
    key i _ fun l hl => pick_ne m hm j.val (by omega) l (hl.trans hij)
  have dom : ∀ (i : Fin 4) (p : Fin 16), (∀ j : Fin 4, pick m j.val ≠ p) → ahead m p (pick m i.val) = false := fun i p hp =>
    key i p fun j hj => hp ⟨j, by omega⟩
  exact (ahead_total m).sortedFrom_eq_of_prefix (by decide) (fun r : Fin 4 => pick m r.val) (pick_injective m hm) ord dom r

end Cert.Pick

end
-- ==== Proof.KernelRound.lean ====
/-
  ONE ROUND OF PICKING IN A BLOCK. The kernel marks, in every column of a block of masks, the first slot that holds the
  column's greatest mask (a maximum, a comparison, the least marked position), and strikes it out with -∞. Here: what the mark
  is at an index, what the block is after n rounds, and that the union of the four marks holds exactly at the four picks.
-/
module

public import proofs.«01_k».proof.Proof.Gen.KernelIdeal.Skeleton
public import proofs.«01_k».proof.Proof.Pick
public import Idealize.ShloMosaic.Lib.Pointwise
public import Idealize.ShloMosaic.Lib.SortNet.Extract

@[expose] public section

set_option maxRecDepth 16384

noncomputable section

namespace Cert.KernelRound

open Cert.KernelIdeal Cert.KernelIdeal.Gen Cert.Pick
open Idealize.ShloMosaic Idealize.ShloMosaic.Pointwise

/-- The word of -∞ is the least extended real. -/
theorem ofBits_bot : Ideal.ofBits .f32 0xFF800000#32 = (⊥ : EReal) := by simp [Ideal.ofBits, Ideal.ieee]

/-- The maximum of a column, folded from -∞, is the value at its first greatest position. -/
theorem fold_max_eq (c : Fin 16 → EReal) : Finset.univ.fold max ⊥ c = c (first c) :=
  le_antisymm (Finset.fold_max_le _ |>.mpr ⟨bot_le, fun j _ => le_first c j⟩)
    (Finset.le_fold_max _ |>.mpr (Or.inr ⟨first c, Finset.mem_univ _, le_rfl⟩))

/-- A signed minimum folded over a family is a value of the family that no value and not the start goes below. -/
theorem fold_minsi_eq (g : Fin 16 → BitVec 32) (a : BitVec 32) (k : Fin 16) (hk : ∀ j, (g k).toInt ≤ (g j).toInt)
    (ha : (g k).toInt ≤ a.toInt) : Finset.univ.fold IntOp.minsi a g = g k := by
  have key : ∀ s : Finset (Fin 16), (g k).toInt ≤ (s.fold IntOp.minsi a g).toInt
      ∧ (k ∈ s → (s.fold IntOp.minsi a g).toInt ≤ (g k).toInt) := by
    intro s
    induction s using Finset.induction_on with
    | empty => exact ⟨ha, fun h => absurd h (Finset.notMem_empty _)⟩
    | insert b s hb ih =>
      rw [Finset.fold_insert hb, SortNet.toInt_minsi]
      refine ⟨le_min (hk b) ih.1, fun h => ?_⟩
      rcases Finset.mem_insert.mp h with rfl | h
      · exact min_le_left _ _
      · exact (min_le_right _ _).trans (ih.2 h)
  exact BitVec.eq_of_toInt_eq (le_antisymm ((key _).2 (Finset.mem_univ k)) (key _).1)

/-- The position of a slot as a signed word. -/
theorem toInt_pos (k : Fin 16) : (BitVec.ofNat 32 k.val).toInt = (k.val : ℤ) := by
  revert k; decide

/-- The least position among those that hold the column's greatest value (16 standing for the others) is `first`. -/
theorem fold_first (c : Fin 16 → EReal) :
    Finset.univ.fold IntOp.minsi 2147483647#32 (fun x : Fin 16 => if c x = Finset.univ.fold max ⊥ c then BitVec.ofNat 32 x.val else 16#32)
      = BitVec.ofNat 32 (first c).val := by
  rw [fold_max_eq]
  have h16 : (16#32 : BitVec 32).toInt = 16 := by decide
  have hb : (2147483647#32 : BitVec 32).toInt = 2147483647 := by decide
  refine (fold_minsi_eq _ _ (first c) (fun j => ?_) ?_).trans (if_pos rfl)
  · rw [if_pos rfl, toInt_pos]
    by_cases h : c j = c (first c)
    · rw [if_pos h, toInt_pos]
      exact_mod_cast (Fin.le_def.mp (first_le c j fun i => h ▸ le_first c i))
    · rw [if_neg h, h16]; omega
  · rw [if_pos rfl, toInt_pos, hb]; omega

/-- A column of a block. -/
def col (w : FVec Ideal S16x16x1024 .f32) (b : Fin 16) (p : Fin 1024) : Fin 16 → EReal := fun k => w (ix3 b k p)

/-- The mark of a round holds at the first slot with the greatest value, and nowhere else. -/
theorem mark_apply (w : FVec Ideal S16x16x1024 .f32) (b k : Fin 16) (p : Fin 1024) :
    k0_pay7 (F := Ideal) w (ix3 b k p) = if k = first (col w b p) then 1#1 else 0#1 := by
  pointwise [k0_pay7]
  rw [ofBits_bot]
  have h := fold_first (col w b p)
  unfold col at h ⊢
  rw [h]
  have e : ∀ a d : Fin 16, IntOp.cmpi .eq (BitVec.ofNat 32 a.val) (BitVec.ofNat 32 d.val) = if a = d then 1#1 else 0#1 := by decide
  exact e _ _

/-- Striking out the mark of a round strikes out that slot of every column. -/
theorem struck_apply (w : FVec Ideal S16x16x1024 .f32) (b k : Fin 16) (p : Fin 1024) :
    k0_pay9 (F := Ideal) w (ix3 b k p) = strike (col w b p) (first (col w b p)) k := by
  have h : k0_pay9 (F := Ideal) w (ix3 b k p) = Scalar.select (k0_pay7 (F := Ideal) w (ix3 b k p)) (Ideal.ofBits .f32 0xFF800000#32) (w (ix3 b k p)) := rfl
  rw [h, mark_apply, ofBits_bot]
  unfold strike
  by_cases e : k = first (col w b p)
  · rw [if_pos e, if_pos e]; rfl
  · rw [if_neg e, if_neg e]; rfl

/-- The block after `n` rounds. -/
def rounds (w : FVec Ideal S16x16x1024 .f32) : ℕ → FVec Ideal S16x16x1024 .f32
  | 0 => w
  | n + 1 => k0_pay9 (F := Ideal) (rounds w n)

/-- Every column of the block after `n` rounds is the column after `n` rounds. -/
theorem col_rounds (w : FVec Ideal S16x16x1024 .f32) (n : ℕ) (b : Fin 16) (p : Fin 1024) :
    col (rounds w n) b p = work (col w b p) n := by
  induction n with
  | zero => rfl
  | succ n ih =>
    funext k
    show k0_pay9 (F := Ideal) (rounds w n) (ix3 b k p) = _
    rw [struck_apply, ih]; rfl

/-- The mark of round `n` holds at that round's pick, and nowhere else. -/
theorem mark_round (w : FVec Ideal S16x16x1024 .f32) (n : ℕ) (b k : Fin 16) (p : Fin 1024) :
    k0_pay7 (F := Ideal) (rounds w n) (ix3 b k p) = if k = pick (col w b p) n then 1#1 else 0#1 := by
  rw [mark_apply, col_rounds]; rfl

/-- The union of the four marks. -/
def chosen (w : FVec Ideal S16x16x1024 .f32) : IVec S16x16x1024 1 :=
  ori (ori (ori (k0_pay8 (F := Ideal) w) (k0_pay7 (F := Ideal) (rounds w 1))) (k0_pay7 (F := Ideal) (rounds w 2))) (k0_pay7 (F := Ideal) (rounds w 3))

/-- A property of some round of four, said round by round. -/
theorem four_iff (q : ℕ → Fin 16) (k : Fin 16) : (∃ r : Fin 4, q r.val = k) ↔ (k = q 0 ∨ k = q 1 ∨ k = q 2 ∨ k = q 3) := by
  constructor
  · rintro ⟨⟨n, hn⟩, hr⟩
    have hr : q n = k := hr
    have : n = 0 ∨ n = 1 ∨ n = 2 ∨ n = 3 := by omega
    rcases this with rfl | rfl | rfl | rfl
    · exact Or.inl hr.symm
    · exact Or.inr (Or.inl hr.symm)
    · exact Or.inr (Or.inr (Or.inl hr.symm))
    · exact Or.inr (Or.inr (Or.inr hr.symm))
  · rintro (h | h | h | h)
    · exact ⟨⟨0, by omega⟩, h.symm⟩
    · exact ⟨⟨1, by omega⟩, h.symm⟩
    · exact ⟨⟨2, by omega⟩, h.symm⟩
    · exact ⟨⟨3, by omega⟩, h.symm⟩

/-- Four marks joined, starting from none. -/
theorem or_marks (P Q R S : Prop) [Decidable P] [Decidable Q] [Decidable R] [Decidable S] [Decidable (P ∨ Q ∨ R ∨ S)] :
    IntOp.ori (IntOp.ori (IntOp.ori (IntOp.ori 0#1 (if P then 1#1 else 0#1)) (if Q then 1#1 else 0#1)) (if R then 1#1 else 0#1)) (if S then 1#1 else 0#1)
      = if P ∨ Q ∨ R ∨ S then 1#1 else 0#1 := by
  by_cases hP : P <;> by_cases hQ : Q <;> by_cases hR : R <;> by_cases hS : S <;>
    simp only [hP, hQ, hR, hS, if_true, if_false, true_or, or_true, or_false] <;> rfl

/-- A slot is marked exactly when one of the four rounds picks it. -/
theorem chosen_apply (w : FVec Ideal S16x16x1024 .f32) (b k : Fin 16) (p : Fin 1024) :
    chosen w (ix3 b k p) = if ∃ r : Fin 4, pick (col w b p) r.val = k then 1#1 else 0#1 := by
  unfold chosen k0_pay8
  simp only [ori, broadcast]
  rw [show k0_pay7 (F := Ideal) w (ix3 b k p) = _ from mark_round w 0 b k p, mark_round w 1 b k p, mark_round w 2 b k p, mark_round w 3 b k p]
  rw [if_congr (four_iff (pick (col w b p)) k) rfl rfl]
  exact or_marks _ _ _ _

end Cert.KernelRound

end
-- ==== Proof.KernelPayload.lean ====
/-
  WHAT ONE BLOCK COMPUTES, at an index. The decoder outputs of the block's slots, the position part, the exponentials of the
  picked slots, the softmax, and each sample's reconstruction, as sums over the values of the block's arguments.
-/
module

public import proofs.«01_k».proof.Proof.KernelRound

@[expose] public section

set_option maxRecDepth 16384

noncomputable section

namespace Cert.KernelPayload

open Cert.KernelIdeal Cert.KernelIdeal.Gen Cert.Pick Cert.KernelRound
open Idealize.ShloMosaic Idealize.ShloMosaic.Pointwise

/-- A slot's row among the block's 256. -/
def row (b k : Fin 16) : Fin 256 := ⟨b.val * 16 + k.val, by omega⟩

/-- The decoder output of a slot of the block, without the position part. -/
def slot (v3 : FVec Ideal S16x16x128 .f32) (v5 : FVec Ideal S128x128 .f32) (v7 : FVec Ideal S1x128 .f32) (v11 : FVec Ideal S128x128 .f32)
    (b k : Fin 16) (o : Fin 128) : EReal :=
  ∑ x : Fin 128, (∑ y : Fin 128, v3 (ix3 b k y) * v5 (ix2 x y) + v7 (ix2 0 x)) * v11 (ix2 o x)

variable (v3 : FVec Ideal S16x16x128 .f32) (v5 : FVec Ideal S128x128 .f32) (v7 : FVec Ideal S1x128 .f32) (v11 : FVec Ideal S128x128 .f32)

/-- The product array holds the decoder outputs, sixteen rows to a sample. -/
theorem pay5_apply (b k : Fin 16) (o : Fin 128) :
    k0_pay5 (F := Ideal) v3 v5 v7 v11 (ix2 (row b k) o) = slot v3 v5 v7 v11 b k o := by
  have h1 : ∀ h, (⟨(row b k).val / 16, h⟩ : Fin 16) = b := fun h => Fin.ext (by show (b.val * 16 + k.val) / 16 = b.val; omega)
  have h2 : ∀ h, (⟨(row b k).val % 16, h⟩ : Fin 16) = k := fun h => Fin.ext (by show (b.val * 16 + k.val) % 16 = k.val; omega)
  pointwise [k0_pay5]
  unfold slot
  refine Finset.sum_congr rfl fun x _ => congrArg (· * _) (congrArg (· + _) (Finset.sum_congr rfl fun y _ => congrArg (· * _) ?_))
  exact congrArg v3 (congrArg₂ (fun i j => ix3 i j y) (h1 _) (h2 _))

/-- Its column 96, by sample and slot, holds the mask outputs. -/
theorem pay6_apply (b k : Fin 16) (z : Fin 1) :
    k0_pay6 (F := Ideal) v3 v5 v7 v11 (ix3 b k z) = slot v3 v5 v7 v11 b k 96 := by
  rw [← pay5_apply]
  unfold k0_pay6
  generalize k0_pay5 (F := Ideal) v3 v5 v7 v11 = y
  pointwise
  rfl

/-- The position part. -/
theorem pay4_apply (W : FVec Ideal S128x128 .f32) (P : FVec Ideal S1024x128 .f32) (B : FVec Ideal S128x1 .f32) (o : Fin 128) (p : Fin 1024) :
    k0_pay4 (F := Ideal) W P B (ix2 o p) = ∑ x : Fin 128, W (ix2 o x) * P (ix2 p x) + B (ix2 o 0) := by
  pointwise [k0_pay4]

/-! ## The softmax -/

/-- The greatest mask output among the picked slots of a column. -/
def top (a : FVec Ideal S16x16x1 .f32) (w : FVec Ideal S16x16x1024 .f32) (b : Fin 16) (p : Fin 1024) : EReal :=
  Finset.univ.fold max ⊥ fun k : Fin 16 => if ∃ r : Fin 4, pick (col w b p) r.val = k then a (ix3 b k 0) else ⊥

/-- The exponential of a picked slot, zero at the others. -/
def expo (a : FVec Ideal S16x16x1 .f32) (w : FVec Ideal S16x16x1024 .f32) (b k : Fin 16) (p : Fin 1024) : EReal :=
  if ∃ r : Fin 4, pick (col w b p) r.val = k then Ideal.exp (a (ix3 b k 0) - top a w b p) else 0

/-- The exponentials from the mask outputs and the marks. -/
def fromMarks (a : FVec Ideal S16x16x1 .f32) (s : IVec S16x16x1024 1) : FVec Ideal S16x16x1024 .f32 :=
  let v70 : FVec Ideal S16x16x1024 .f32 := broadcastTo S16x16x1024 (shapeCast S16x16x1 a shapeCasts_S16x16x1_S16x16x1) broadcasts_S16x16x1_S16x16x1024
  let v72 : FVec Ideal S16x16x1024 .f32 := select s v70 (broadcast S16x16x1024 (Scalar.ofBits .f32 0xFF800000#32))
  let v73 : FVec Ideal S16x1024 .f32 := multiReduction .maximumf [1] S16x1024 v72 0xFF800000#32 reduces_S16x16x1024_S16x1024 (.inl rfl) rfl
  let v75 : FVec Ideal S16x16x1024 .f32 := broadcastTo S16x16x1024 (shapeCast S16x1x1024 v73 shapeCasts_S16x1024_S16x1x1024) broadcasts_S16x1x1024_S16x16x1024
  select s (exp (subf v70 v75)) (broadcast S16x16x1024 (Scalar.ofBits .f32 0x00000000#32))

/-- The kernel's exponentials are those of the four marks' union. -/
theorem pay11_eq (a : FVec Ideal S16x16x1 .f32) (w : FVec Ideal S16x16x1024 .f32) :
    k0_pay11 (F := Ideal) a (iota .tc S16x16x1024 32 [1] iota_S16x16x1024_d1_w32) (k0_pay8 (F := Ideal) w) (k0_pay9 (F := Ideal) w) (k0_pay10 (F := Ideal) w)
      = fromMarks a (chosen w) := rfl

/-- A selection by the word of a condition is the selection by the condition. -/
theorem select_of (q : Prop) [Decidable q] (x y : EReal) : Scalar.select (if q then 1#1 else 0#1) x y = if q then x else y := by
  split <;> rfl

/-- The exponentials at an index. -/
theorem pay11_apply (a : FVec Ideal S16x16x1 .f32) (w : FVec Ideal S16x16x1024 .f32) (b k : Fin 16) (p : Fin 1024) :
    k0_pay11 (F := Ideal) a (iota .tc S16x16x1024 32 [1] iota_S16x16x1024_d1_w32) (k0_pay8 (F := Ideal) w) (k0_pay9 (F := Ideal) w) (k0_pay10 (F := Ideal) w) (ix3 b k p)
      = expo a w b k p := by
  rw [pay11_eq]
  have hs := fun k => chosen_apply w b k p
  unfold expo top
  generalize chosen w = s at hs ⊢
  pointwise [fromMarks]
  simp only [hs, select_of]
  rw [show Ideal.ofBits .f32 4286578688#32 = (⊥ : EReal) from ofBits_bot]

/-- The sums of the exponentials. -/
theorem pay12_apply (a : FVec Ideal S16x16x1 .f32) (v17 : IVec S16x16x1024 32) (v29 : IVec S16x16x1024 1) (v31 : FVec Ideal S16x16x1024 .f32)
    (v35 : IVec S16x16x1024 1) (b : Fin 16) (z : Fin 1) (p : Fin 1024) :
    k0_pay12 (F := Ideal) a v17 v29 v31 v35 (ix3 b z p) = ∑ k : Fin 16, k0_pay11 (F := Ideal) a v17 v29 v31 v35 (ix3 b k p) := by
  unfold k0_pay12
  generalize k0_pay11 (F := Ideal) a v17 v29 v31 v35 = y
  pointwise

/-- The quotients. -/
theorem pay13_apply (e : FVec Ideal S16x16x1024 .f32) (s : FVec Ideal S16x1x1024 .f32) (b k : Fin 16) (p : Fin 1024) :
    k0_pay13 (F := Ideal) e s (ix3 b k p) = Ideal.div (e (ix3 b k p)) (s (ix3 b 0 p)) := by
  pointwise [k0_pay13]

/-- A sample's reconstruction from the decoder outputs `u`, the weights `g` and the position part `v`. -/
def recon (u : FVec Ideal S256x128 .f32) (g : FVec Ideal S16x16x1024 .f32) (v : FVec Ideal S96x1024 .f32) (b : Fin 16) (o : Fin 96) (p : Fin 1024) : EReal :=
  ∑ k : Fin 16, u (ix2 (row b k) (o.castLE (by decide))) * g (ix3 b k p) + v (ix2 o p)

/-- Sample `n`'s product of its rows with its weights, and the position part. -/
theorem piece_apply (n : ℕ) (hn : n < 16) (u : FVec Ideal S256x128 .f32) (g : FVec Ideal S16x16x1024 .f32) (v : FVec Ideal S96x1024 .f32)
    (h1 : S256x128.Slices ![16 * n, 0] S16x96) (h2 : S16x16x1024.Slices ![n, 0, 0] S1x16x1024) (z : Fin 1) (o : Fin 96) (p : Fin 1024) :
    shapeCast S1x96x1024 (addf (matmul dot_S16x96_S16x1024_S96x1024_0_0_1_1_n_n none (extractStridedSlice S16x96 ![16 * n, 0] u h1)
      (shapeCast S16x1024 (extractStridedSlice S1x16x1024 ![n, 0, 0] g h2) shapeCasts_S1x16x1024_S16x1024) (constant S96x1024 .f32 0x00000000#32)) v)
      shapeCasts_S96x1024_S1x96x1024 (ix3 z o p) = recon u g v ⟨n, hn⟩ o p := by
  pointwise
  unfold recon
  refine congrArg (· + _) (Finset.sum_congr rfl fun k _ => congrArg (· * _) (congrArg u (congrArg₂ ix2 (Fin.ext ?_) (Fin.ext rfl))))
  show 16 * n + k.val = n * 16 + k.val
  omega

end Cert.KernelPayload

end
-- ==== Proof.KernelBlock.lean ====
/-
  WHAT A GRID POINT LEAVES in its two output blocks and in the scratch that the points share. The sixteen stores of the
  reconstruction's block tile it, one sample to a store, so the block is one function of the index; the other two stores fill
  their arrays whole. The first point stores the position part in the scratch and reads it back, the second reads what it finds.
-/
module

public import proofs.«01_k».proof.Proof.KernelPayload
public import proofs.«01_k».proof.Proof.Gen.KernelIdeal.Frame
public import Idealize.ShloMosaic.Lib.Pipeline.Value
public import Idealize.ShloMosaic.Lib.Pipeline.ValueKit

@[expose] public section

set_option maxRecDepth 16384

noncomputable section

namespace Cert.KernelBlock

open Cert.KernelIdeal Cert.KernelIdeal.Gen Cert.Pick Cert.KernelRound Cert.KernelPayload
open Idealize.ShloMosaic Idealize.ShloMosaic.Pointwise

/-- The offsets of a load of a whole matrix are zero. -/
theorem zero2 : (![0, 0] : Fin 2 → Nat) = fun _ => 0 := funext fun a => by fin_cases a <;> rfl

/-- The offsets of a load of a whole block are zero. -/
theorem zero3 : (![0, 0, 0] : Fin 3 → Nat) = fun _ => 0 := funext fun a => by fin_cases a <;> rfl

/-- The first 96 rows of the position part. -/
def rows (X : FVec Ideal S128x1024 .f32) : FVec Ideal S96x1024 .f32 := fun j => X (ix2 ((j 0).castLE (by decide)) (j 1))

/-- A load of the first 96 rows reads them. -/
theorem ld_rows (X : FVec Ideal S128x1024 .f32) :
    View.ld (Val := Elt Ideal) (e' := .f32) X (Rect.unit (s := S128x1024) ![0, 0] S96x1024.size inb_S128x1024_S96x1024_0_0) = rows X :=
  funext fun j => View.ld_unit_apply_of (Val := Elt Ideal) (e := .f32) X _ _ _ j (ix2 ((j 0).castLE (by decide)) (j 1)) fun a => by
    fin_cases a <;> exact (Nat.zero_add _).symm

/-! ## The sixteen stores of the reconstruction -/

section Pieces

variable (u : FVec Ideal S256x128 .f32) (e : FVec Ideal S16x16x1024 .f32) (s : FVec Ideal S16x1x1024 .f32) (v : FVec Ideal S96x1024 .f32)

/-- The stores, last first, from the decoder outputs, the exponentials, their sums and the position part. -/
def pieces : List (View.Piece (Elt Ideal) S16x96x1024 .f32) := [
  ⟨Rect.unit ![15, 0, 0] ![1, 96, 1024] inb_S16x96x1024_S1x96x1024_15_0_0, k0_pay3 u (k0_pay13 e s) v⟩,
  ⟨Rect.unit ![14, 0, 0] ![1, 96, 1024] inb_S16x96x1024_S1x96x1024_14_0_0, k0_pay2 u (k0_pay13 e s) v⟩,
  ⟨Rect.unit ![13, 0, 0] ![1, 96, 1024] inb_S16x96x1024_S1x96x1024_13_0_0, k0_pay1 (k0_pay13 e s) v (k0_pay29 u)⟩,
  ⟨Rect.unit ![12, 0, 0] ![1, 96, 1024] inb_S16x96x1024_S1x96x1024_12_0_0, k0_pay28 u (k0_pay13 e s) v⟩,
  ⟨Rect.unit ![11, 0, 0] ![1, 96, 1024] inb_S16x96x1024_S1x96x1024_11_0_0, k0_pay27 u (k0_pay13 e s) v⟩,
  ⟨Rect.unit ![10, 0, 0] ![1, 96, 1024] inb_S16x96x1024_S1x96x1024_10_0_0, k0_pay26 u (k0_pay13 e s) v⟩,
  ⟨Rect.unit ![9, 0, 0] ![1, 96, 1024] inb_S16x96x1024_S1x96x1024_9_0_0, k0_pay25 u (k0_pay13 e s) v⟩,
  ⟨Rect.unit ![8, 0, 0] ![1, 96, 1024] inb_S16x96x1024_S1x96x1024_8_0_0, k0_pay24 (k0_pay23 u (k0_pay13 e s) v)⟩,
  ⟨Rect.unit ![7, 0, 0] ![1, 96, 1024] inb_S16x96x1024_S1x96x1024_7_0_0, k0_pay22 u (k0_pay13 e s) v⟩,
  ⟨Rect.unit ![6, 0, 0] ![1, 96, 1024] inb_S16x96x1024_S1x96x1024_6_0_0, k0_pay21 u (k0_pay13 e s) v⟩,
  ⟨Rect.unit ![5, 0, 0] ![1, 96, 1024] inb_S16x96x1024_S1x96x1024_5_0_0, k0_pay20 u (k0_pay13 e s) v⟩,
  ⟨Rect.unit ![4, 0, 0] ![1, 96, 1024] inb_S16x96x1024_S1x96x1024_4_0_0, k0_pay19 u (k0_pay13 e s) v⟩,
  ⟨Rect.unit ![3, 0, 0] ![1, 96, 1024] inb_S16x96x1024_S1x96x1024_3_0_0, k0_pay18 (k0_pay17 u e s v)⟩,
  ⟨Rect.unit ![2, 0, 0] ![1, 96, 1024] inb_S16x96x1024_S1x96x1024_2_0_0, k0_pay16 u e s v⟩,
  ⟨Rect.unit ![1, 0, 0] ![1, 96, 1024] inb_S16x96x1024_S1x96x1024_1_0_0, k0_pay15 u e s v⟩,
  ⟨Rect.unit ![0, 0, 0] ![1, 96, 1024] inb_S16x96x1024_S1x96x1024_0_0_0, k0_pay14 u e s v⟩]

/-- The reconstruction as an array. -/
def whole : FVec Ideal S16x96x1024 .f32 := fun y => recon u (k0_pay13 e s) v (y 0) (y 1) (y 2)

/-- A store whose payload is sample `n`'s reconstruction agrees with the array. -/
theorem agrees (n : ℕ) (hn : n < 16) (inb : ∀ a, (![n, 0, 0] : Fin 3 → ℕ) a + (![1, 96, 1024] : Fin 3 → ℕ) a ≤ S16x96x1024.size a)
    (w : FVec Ideal S1x96x1024 .f32) (hw : ∀ z o p, w (ix3 z o p) = recon u (k0_pay13 e s) v ⟨n, hn⟩ o p) (x : S1x96x1024.Idx) :
    w x = whole u e s v ((Rect.unit (s := S16x96x1024) ![n, 0, 0] ![1, 96, 1024] inb).emb x) := by
  have hx : x = ix3 (x 0) (x 1) (x 2) := funext fun a => by fin_cases a <;> rfl
  have h0 : (x 0).val < 1 := (x 0).isLt
  refine (congrArg w hx).trans ((hw _ _ _).trans ?_)
  show recon u _ v _ _ _ = recon u _ v _ _ _
  congr 1
  · exact Fin.ext (show n = n + 1 * (x 0).val by omega)
  · exact Fin.ext (show (x 1).val = 0 + 1 * (x 1).val by omega)
  · exact Fin.ext (show (x 2).val = 0 + 1 * (x 2).val by omega)

/-- Every store agrees with the array. -/
theorem pieces_agree : ∀ p ∈ pieces u e s v, ∀ x : p.1.shape.Idx, p.2 x = whole u e s v (p.1.emb x) := by
  unfold pieces
  simp only [List.forall_mem_cons]
  have store := fun (n : ℕ) hn inb h1 h2 => agrees u e s v n hn inb _ fun z o p => piece_apply n hn u (k0_pay13 e s) v h1 h2 z o p
  exact ⟨store 15 (by decide) inb_S16x96x1024_S1x96x1024_15_0_0 slices_S256x128_o240_0_S16x96 slices_S16x16x1024_o15_0_0_S1x16x1024,
    store 14 (by decide) inb_S16x96x1024_S1x96x1024_14_0_0 slices_S256x128_o224_0_S16x96 slices_S16x16x1024_o14_0_0_S1x16x1024,
    store 13 (by decide) inb_S16x96x1024_S1x96x1024_13_0_0 slices_S256x128_o208_0_S16x96 slices_S16x16x1024_o13_0_0_S1x16x1024,
    store 12 (by decide) inb_S16x96x1024_S1x96x1024_12_0_0 slices_S256x128_o192_0_S16x96 slices_S16x16x1024_o12_0_0_S1x16x1024,
    store 11 (by decide) inb_S16x96x1024_S1x96x1024_11_0_0 slices_S256x128_o176_0_S16x96 slices_S16x16x1024_o11_0_0_S1x16x1024,
    store 10 (by decide) inb_S16x96x1024_S1x96x1024_10_0_0 slices_S256x128_o160_0_S16x96 slices_S16x16x1024_o10_0_0_S1x16x1024,
    store 9 (by decide) inb_S16x96x1024_S1x96x1024_9_0_0 slices_S256x128_o144_0_S16x96 slices_S16x16x1024_o9_0_0_S1x16x1024,
    store 8 (by decide) inb_S16x96x1024_S1x96x1024_8_0_0 slices_S256x128_o128_0_S16x96 slices_S16x16x1024_o8_0_0_S1x16x1024,
    store 7 (by decide) inb_S16x96x1024_S1x96x1024_7_0_0 slices_S256x128_o112_0_S16x96 slices_S16x16x1024_o7_0_0_S1x16x1024,
    store 6 (by decide) inb_S16x96x1024_S1x96x1024_6_0_0 slices_S256x128_o96_0_S16x96 slices_S16x16x1024_o6_0_0_S1x16x1024,
    store 5 (by decide) inb_S16x96x1024_S1x96x1024_5_0_0 slices_S256x128_o80_0_S16x96 slices_S16x16x1024_o5_0_0_S1x16x1024,
    store 4 (by decide) inb_S16x96x1024_S1x96x1024_4_0_0 slices_S256x128_o64_0_S16x96 slices_S16x16x1024_o4_0_0_S1x16x1024,
    store 3 (by decide) inb_S16x96x1024_S1x96x1024_3_0_0 slices_S256x128_o48_0_S16x96 slices_S16x16x1024_o3_0_0_S1x16x1024,
    store 2 (by decide) inb_S16x96x1024_S1x96x1024_2_0_0 slices_S256x128_o32_0_S16x96 slices_S16x16x1024_o2_0_0_S1x16x1024,
    store 1 (by decide) inb_S16x96x1024_S1x96x1024_1_0_0 slices_S256x128_o16_0_S16x96 slices_S16x16x1024_o1_0_0_S1x16x1024,
    store 0 (by decide) inb_S16x96x1024_S1x96x1024_0_0_0 slices_S256x128_o0_0_S16x96 slices_S16x16x1024_o0_0_0_S1x16x1024,
    fun _ h => absurd h List.not_mem_nil⟩

end Pieces

/-! ## What the points leave -/

section Points

variable (c : Dev nD) (i : grid0.Coords)
  (a1 : Memref sig .tc .vmem S16x16x128 .f32) (h1 : a1.IsWhole)
  (a2 : Memref sig .tc .vmem S16x16x1024 .f32) (h2 : a2.IsWhole)
  (a3 : Memref sig .tc .vmem S128x128 .f32) (h3 : a3.IsWhole)
  (a4 : Memref sig .tc .vmem S1x128 .f32) (h4 : a4.IsWhole)
  (a5 : Memref sig .tc .vmem S1024x128 .f32) (h5 : a5.IsWhole)
  (a6 : Memref sig .tc .vmem S128x128 .f32) (h6 : a6.IsWhole)
  (a7 : Memref sig .tc .vmem S128x1 .f32) (h7 : a7.IsWhole)
  (a8 : Memref sig .tc .vmem S16x96x1024 .f32) (h8 : a8.IsWhole)
  (a9 : Memref sig .tc .vmem S16x16x1024 .f32) (h9 : a9.IsWhole)
  (a10 : Memref sig .tc .vmem S128x1024 .f32) (h10 : a10.IsWhole)
  (x0 : FVec Ideal S16x16x128 .f32) (x1 : FVec Ideal S16x16x1024 .f32) (x2 : FVec Ideal S128x128 .f32) (x3 : FVec Ideal S1x128 .f32)
  (x4 : FVec Ideal S1024x128 .f32) (x5 : FVec Ideal S128x128 .f32) (x6 : FVec Ideal S128x1 .f32)

/-- A load of the first 96 rows of what one store of the whole scratch left reads them. -/
theorem load_rows (inb) (inb') (X : FVec Ideal S128x1024 .f32) :
    a10.view.readCov [(⟨Rect.unit ![0, 0] S128x1024.size inb, X⟩ : View.Piece (Elt Ideal) S128x1024 .f32)]
      (Rect.unit (s := S128x1024) ![0, 0] S96x1024.size inb').toLoadRect = rows X := by
  rw [View.readCov_eq_canon', View.canon_unit_zero zero2]
  exact ld_rows X

/-- The exponentials of a block, from its slots and masks and the weights. -/
def exps : FVec Ideal S16x16x1024 .f32 :=
  k0_pay11 (F := Ideal) (k0_pay6 (F := Ideal) x0 x2 x3 x5) (iota .tc S16x16x1024 32 [1] iota_S16x16x1024_d1_w32) (k0_pay8 (F := Ideal) x1) (k0_pay9 (F := Ideal) x1) (k0_pay10 (F := Ideal) x1)

/-- Their sums. -/
def sums : FVec Ideal S16x1x1024 .f32 :=
  k0_pay12 (F := Ideal) (k0_pay6 (F := Ideal) x0 x2 x3 x5) (iota .tc S16x16x1024 32 [1] iota_S16x16x1024_d1_w32) (k0_pay8 (F := Ideal) x1) (k0_pay9 (F := Ideal) x1) (k0_pay10 (F := Ideal) x1)

/-- The first point leaves the position part in the scratch. -/
theorem scratch_A (hc : cond0_0 i) : sout0_A_0 (F := Ideal) c i a1 h1 a2 h2 a3 h3 a4 h4 a5 h5 a6 h6 a7 h7 a8 h8 a9 h9 a10 h10 hc x0 x1 x2 x3 x4 x5 x6 = k0_pay4 (F := Ideal) x5 x4 x6 := by
  unfold sout0_A_0
  rw [View.read_writes_eq_canon _ _ _ (scover0_A_0 (F := Ideal) c i a1 h1 a2 h2 a3 h3 a4 h4 a5 h5 a6 h6 a7 h7 a8 h8 a9 h9 a10 h10 hc x0 x1 x2 x3 x4 x5 x6)]
  unfold kernelRun0_A
  dsimp only
  sl_unfold_words
  rw [View.canon_unit_zero zero2]
  simp only [View.readAt_eq_ld, h1.read_unread, h2.read_unread, h3.read_unread, h4.read_unread, h5.read_unread, h6.read_unread, h7.read_unread, View.ld_unit_zero (S := S1024x128) zero2, View.ld_unit_zero (S := S128x128) zero2, View.ld_unit_zero (S := S128x1) zero2]

/-- The first point leaves the softmax weights in the masks' block. -/
theorem masks_A (hc : cond0_0 i) :
    out0_A_8 (F := Ideal) c i a1 h1 a2 h2 a3 h3 a4 h4 a5 h5 a6 h6 a7 h7 a8 h8 a9 h9 a10 h10 hc x0 x1 x2 x3 x4 x5 x6 = k0_pay13 (F := Ideal) (exps x0 x1 x2 x3 x5) (sums x0 x1 x2 x3 x5) := by
  unfold out0_A_8
  rw [View.read_writes_eq_canon _ _ _ (cover0_A_8 (F := Ideal) c i a1 h1 a2 h2 a3 h3 a4 h4 a5 h5 a6 h6 a7 h7 a8 h8 a9 h9 a10 h10 hc x0 x1 x2 x3 x4 x5 x6)]
  unfold kernelRun0_A
  dsimp only
  sl_unfold_words
  rw [View.canon_unit_zero zero3]
  simp only [View.readAt_eq_ld, h1.read_unread, h2.read_unread, h3.read_unread, h4.read_unread, h5.read_unread, h6.read_unread, h7.read_unread, View.ld_unit_zero (S := S16x16x128) zero3, View.ld_unit_zero (S := S16x16x1024) zero3, View.ld_unit_zero (S := S128x128) zero2,
    View.ld_unit_zero (S := S1x128) zero2]
  rfl

/-- So does the second. -/
theorem masks_B (hc : ¬cond0_0 i) (xs : FVec Ideal S128x1024 .f32) :
    out0_B_8 (F := Ideal) c i a1 h1 a2 h2 a3 h3 a4 h4 a5 h5 a6 h6 a7 h7 a8 h8 a9 h9 a10 h10 hc x0 x1 x2 x3 x4 x5 x6 xs = k0_pay13 (F := Ideal) (exps x0 x1 x2 x3 x5) (sums x0 x1 x2 x3 x5) := by
  unfold out0_B_8
  rw [View.read_writes_eq_canon _ _ _ (cover0_B_8 (F := Ideal) c i a1 h1 a2 h2 a3 h3 a4 h4 a5 h5 a6 h6 a7 h7 a8 h8 a9 h9 a10 h10 hc x0 x1 x2 x3 x4 x5 x6 xs)]
  unfold kernelRun0_B
  dsimp only
  sl_unfold_words
  rw [View.canon_unit_zero zero3]
  simp only [View.readAt_eq_ld, h1.read_unread, h2.read_unread, h3.read_unread, h4.read_unread, h5.read_unread, h6.read_unread, h7.read_unread, View.ld_unit_zero (S := S16x16x128) zero3, View.ld_unit_zero (S := S16x16x1024) zero3, View.ld_unit_zero (S := S128x128) zero2,
    View.ld_unit_zero (S := S1x128) zero2]
  rfl

/-- The first point leaves the reconstruction in its block, with the position part that it has stored. -/
theorem recon_A (hc : cond0_0 i) :
    out0_A_7 (F := Ideal) c i a1 h1 a2 h2 a3 h3 a4 h4 a5 h5 a6 h6 a7 h7 a8 h8 a9 h9 a10 h10 hc x0 x1 x2 x3 x4 x5 x6
      = whole (k0_pay5 (F := Ideal) x0 x2 x3 x5) (exps x0 x1 x2 x3 x5) (sums x0 x1 x2 x3 x5) (rows (k0_pay4 (F := Ideal) x5 x4 x6)) := by
  have hcov := cover0_A_7 (F := Ideal) c i a1 h1 a2 h2 a3 h3 a4 h4 a5 h5 a6 h6 a7 h7 a8 h8 a9 h9 a10 h10 hc x0 x1 x2 x3 x4 x5 x6
  have key : (kernelRun0_A (F := Ideal) c i a1 h1 a2 h2 a3 h3 a4 h4 a5 h5 a6 h6 a7 h7 a8 h8 a9 h9 a10 h10 hc x0 x1 x2 x3 x4 x5 x6).1
      = pieces (k0_pay5 (F := Ideal) x0 x2 x3 x5) (exps x0 x1 x2 x3 x5) (sums x0 x1 x2 x3 x5) (rows (k0_pay4 (F := Ideal) x5 x4 x6)) := by
    unfold kernelRun0_A
    dsimp only
    sl_unfold_words
    simp only [View.readAt_eq_ld, h1.read_unread, h2.read_unread, h3.read_unread, h4.read_unread, h5.read_unread, h6.read_unread, h7.read_unread, View.ld_unit_zero (S := S16x16x128) zero3, View.ld_unit_zero (S := S16x16x1024) zero3,
      View.ld_unit_zero (S := S128x128) zero2, View.ld_unit_zero (S := S1x128) zero2,
      View.ld_unit_zero (S := S1024x128) zero2, View.ld_unit_zero (S := S128x1) zero2]
    rw [← load_rows a10 inb_S128x1024_S128x1024_0_0 inb_S128x1024_S96x1024_0_0]
    rfl
  unfold out0_A_7
  funext y
  exact View.read_writes_apply_of_pieces _ _ _ _ (by rw [key]; exact pieces_agree _ _ _ _) y (hcov y)

/-- The second point leaves the reconstruction in its block, with the position part that it finds. -/
theorem recon_B (hc : ¬cond0_0 i) (xs : FVec Ideal S128x1024 .f32) :
    out0_B_7 (F := Ideal) c i a1 h1 a2 h2 a3 h3 a4 h4 a5 h5 a6 h6 a7 h7 a8 h8 a9 h9 a10 h10 hc x0 x1 x2 x3 x4 x5 x6 xs
      = whole (k0_pay5 (F := Ideal) x0 x2 x3 x5) (exps x0 x1 x2 x3 x5) (sums x0 x1 x2 x3 x5) (rows xs) := by
  have hcov := cover0_B_7 (F := Ideal) c i a1 h1 a2 h2 a3 h3 a4 h4 a5 h5 a6 h6 a7 h7 a8 h8 a9 h9 a10 h10 hc x0 x1 x2 x3 x4 x5 x6 xs
  have key : (kernelRun0_B (F := Ideal) c i a1 h1 a2 h2 a3 h3 a4 h4 a5 h5 a6 h6 a7 h7 a8 h8 a9 h9 a10 h10 hc x0 x1 x2 x3 x4 x5 x6 xs).1
      = pieces (k0_pay5 (F := Ideal) x0 x2 x3 x5) (exps x0 x1 x2 x3 x5) (sums x0 x1 x2 x3 x5) (rows xs) := by
    unfold kernelRun0_B
    dsimp only
    sl_unfold_words
    simp only [View.readAt_eq_ld, h1.read_unread, h2.read_unread, h3.read_unread, h4.read_unread, h5.read_unread, h6.read_unread, h7.read_unread, h10.read_unread, View.ld_unit_zero (S := S16x16x128) zero3, View.ld_unit_zero (S := S16x16x1024) zero3,
      View.ld_unit_zero (S := S128x128) zero2, View.ld_unit_zero (S := S1x128) zero2]
    rw [← ld_rows]
    rfl
  unfold out0_B_7
  funext y
  exact View.read_writes_apply_of_pieces _ _ _ _ (by rw [key]; exact pieces_agree _ _ _ _) y (hcov y)

end Points

end Cert.KernelBlock

end
-- ==== Proof.Spec.lean ====
/-
  WHAT THE TWO PROGRAMS COMPUTE, in plain sums over extended reals, and nothing of how. `In` holds the seven arguments as
  functions of their coordinates. The reference: the decoder output of each of the four picked slots, its softmax over the
  four, the weighted sum and the weights put back at the slots. The kernel: the decoder output of every slot without the
  position part, a softmax over sixteen that is zero off the picks, the weighted sum, and the position part added once.
-/
module

public import proofs.«01_k».proof.Proof.Pick
public import Idealize.ShloMosaic.PureOps.Ideal

@[expose] public section

noncomputable section

namespace Cert.Spec

open Cert.Pick Idealize.ShloMosaic

/-- The seven arguments: slots, masks, input weights and bias, position embedding, decoder weights and bias. -/
structure In where
  slots : Fin 32 → Fin 16 → Fin 128 → EReal
  masks : Fin 32 → Fin 16 → Fin 1024 → EReal
  win : Fin 128 → Fin 128 → EReal
  bin : Fin 128 → EReal
  pos : Fin 1024 → Fin 128 → EReal
  dec : Fin 97 → Fin 128 → EReal
  bdec : Fin 97 → EReal

variable (I : In)

/-- The column of masks of sample `b` at patch `p`. -/
def column (b : Fin 32) (p : Fin 1024) : Fin 16 → EReal := fun k => I.masks b k p

/-- The slot picked in round `r`. -/
def choice (b : Fin 32) (p : Fin 1024) (r : Fin 4) : Fin 16 := pick (column I b p) r.val

/-- A slot's embedding: `slots · winᵀ + bin`. -/
def emb (b : Fin 32) (k : Fin 16) (d : Fin 128) : EReal := ∑ j : Fin 128, I.slots b k j * I.win d j + I.bin d

/-! ## The reference -/

/-- The decoder output of the slot of round `r`. -/
def refOut (b : Fin 32) (r : Fin 4) (p : Fin 1024) (o : Fin 97) : EReal :=
  ∑ d : Fin 128, (emb I b (choice I b p r) d + I.pos p d) * I.dec o d + I.bdec o

/-- The greatest of the four mask outputs. -/
def refTop (b : Fin 32) (p : Fin 1024) : EReal := max ⊥ (Finset.univ.fold max ⊥ fun r : Fin 4 => refOut I b r p 96)

/-- The exponential of a mask output under the greatest. -/
def refExp (b : Fin 32) (r : Fin 4) (p : Fin 1024) : EReal := Ideal.exp (refOut I b r p 96 - refTop I b p)

/-- The softmax over the four rounds. -/
def refWeight (b : Fin 32) (r : Fin 4) (p : Fin 1024) : EReal := Ideal.div (refExp I b r p) (∑ r' : Fin 4, refExp I b r' p)

/-- The reconstruction: the weighted sum of the decoder outputs. -/
def refRecon (b : Fin 32) (p : Fin 1024) (o : Fin 97) : EReal := ∑ r : Fin 4, refOut I b r p o * refWeight I b r p

/-- The weights at the slots: round `r`'s at its slot, zero at a slot no round picks. -/
def refMask (b : Fin 32) (k : Fin 16) (p : Fin 1024) : EReal := ∑ r : Fin 4, if choice I b p r = k then refWeight I b r p else 0

/-! ## The kernel -/

/-- The decoder output of a slot without the position part. -/
def slotOut (b : Fin 32) (k : Fin 16) (o : Fin 97) : EReal := ∑ d : Fin 128, emb I b k d * I.dec o d

/-- The position part of the decoder output. -/
def posOut (o : Fin 97) (p : Fin 1024) : EReal := ∑ d : Fin 128, I.dec o d * I.pos p d + I.bdec o

/-- The greatest mask output among the picked slots. -/
def kerTop (b : Fin 32) (p : Fin 1024) : EReal :=
  Finset.univ.fold max ⊥ fun k : Fin 16 => if ∃ r, choice I b p r = k then slotOut I b k 96 else ⊥

/-- The exponential of a picked slot's mask output, zero at the others. -/
def kerExp (b : Fin 32) (k : Fin 16) (p : Fin 1024) : EReal :=
  if ∃ r, choice I b p r = k then Ideal.exp (slotOut I b k 96 - kerTop I b p) else 0

/-- The softmax over the slots. -/
def kerMask (b : Fin 32) (k : Fin 16) (p : Fin 1024) : EReal := Ideal.div (kerExp I b k p) (∑ k' : Fin 16, kerExp I b k' p)

/-- The reconstruction: the weighted sum over the slots, and the position part. -/
def kerRecon (b : Fin 32) (p : Fin 1024) (o : Fin 97) : EReal := ∑ k : Fin 16, slotOut I b k o * kerMask I b k p + posOut I o p

end Cert.Spec

end
-- ==== Proof.KernelPoint.lean ====
/-
  A POINT'S BLOCKS AGAINST THE SPECIFICATION. If a point's blocks hold the arguments' entries at samples 16 t … 16 t + 15, then what
  it leaves in its two output blocks are the specification's values for those samples.
-/
module

public import proofs.«01_k».proof.Proof.KernelBlock
public import proofs.«01_k».proof.Proof.Spec

@[expose] public section

set_option maxRecDepth 16384

noncomputable section

namespace Cert.KernelPoint

open Cert.KernelIdeal Cert.KernelIdeal.Gen Cert.Pick Cert.KernelRound Cert.KernelPayload Cert.KernelBlock
open Idealize.ShloMosaic Idealize.ShloMosaic.Pointwise

/-- Sample `b` of block `t`. -/
def sample (t : Fin 2) (b : Fin 16) : Fin 32 := ⟨t.val * 16 + b.val, by omega⟩

/-- The blocks of point `t` hold the arguments' entries. -/
structure Holds (I : Spec.In) (t : Fin 2) (x0 : FVec Ideal S16x16x128 .f32) (x1 : FVec Ideal S16x16x1024 .f32) (x2 : FVec Ideal S128x128 .f32)
    (x3 : FVec Ideal S1x128 .f32) (x5 : FVec Ideal S128x128 .f32) : Prop where
  slots : ∀ b k d, x0 (ix3 b k d) = I.slots (sample t b) k d
  masks : ∀ b k p, x1 (ix3 b k p) = I.masks (sample t b) k p
  win : ∀ d j, x2 (ix2 d j) = I.win d j
  bin : ∀ d, x3 (ix2 0 d) = I.bin d
  dec : ∀ (o : Fin 97) d, x5 (ix2 (o.castLE (by decide)) d) = I.dec o d

/-- The position part that the scratch holds. -/
def Position (I : Spec.In) (v : FVec Ideal S128x1024 .f32) : Prop := ∀ (o : Fin 97) p, v (ix2 (o.castLE (by decide)) p) = Spec.posOut I o p

/-- What the first point stores in the scratch is the position part. -/
theorem position_of (I : Spec.In) (x4 : FVec Ideal S1024x128 .f32) (x5 : FVec Ideal S128x128 .f32) (x6 : FVec Ideal S128x1 .f32)
    (hp : ∀ p d, x4 (ix2 p d) = I.pos p d) (hd : ∀ (o : Fin 97) d, x5 (ix2 (o.castLE (by decide)) d) = I.dec o d)
    (hb : ∀ o : Fin 97, x6 (ix2 (o.castLE (by decide)) 0) = I.bdec o) : Position I (k0_pay4 (F := Ideal) x5 x4 x6) := fun o p => by
  rw [pay4_apply, hb]
  unfold Spec.posOut
  exact congrArg (· + _) (Finset.sum_congr rfl fun d _ => by rw [hd, hp])

variable {I : Spec.In} {t : Fin 2} {x0 : FVec Ideal S16x16x128 .f32} {x1 : FVec Ideal S16x16x1024 .f32} {x2 : FVec Ideal S128x128 .f32}
  {x3 : FVec Ideal S1x128 .f32} {x5 : FVec Ideal S128x128 .f32} (h : Holds I t x0 x1 x2 x3 x5)

include h

/-- The decoder output of a slot. -/
theorem slot_eq (b k : Fin 16) (o : Fin 97) : slot x0 x2 x3 x5 b k (o.castLE (by decide)) = Spec.slotOut I (sample t b) k o := by
  unfold slot Spec.slotOut Spec.emb
  refine Finset.sum_congr rfl fun d _ => ?_
  rw [h.dec, h.bin]
  exact congrArg (fun s => (s + _) * _) (Finset.sum_congr rfl fun j _ => by rw [h.slots, h.win])

/-- The columns of masks. -/
theorem col_eq (b : Fin 16) (p : Fin 1024) : col x1 b p = Spec.column I (sample t b) p := funext fun k => h.masks b k p

/-- The mask outputs. -/
theorem gate_eq (b k : Fin 16) : k0_pay6 (F := Ideal) x0 x2 x3 x5 (ix3 b k 0) = Spec.slotOut I (sample t b) k 96 := by
  rw [pay6_apply]
  exact slot_eq h b k 96

/-- The exponentials. -/
theorem exps_eq (b k : Fin 16) (p : Fin 1024) : exps x0 x1 x2 x3 x5 (ix3 b k p) = Spec.kerExp I (sample t b) k p := by
  unfold exps
  rw [pay11_apply]
  unfold expo top Spec.kerExp Spec.kerTop Spec.choice
  rw [col_eq h]
  simp only [gate_eq h]
  congr!

/-- The weights. -/
theorem mask_eq (b k : Fin 16) (p : Fin 1024) :
    k0_pay13 (F := Ideal) (exps x0 x1 x2 x3 x5) (sums x0 x1 x2 x3 x5) (ix3 b k p) = Spec.kerMask I (sample t b) k p := by
  rw [pay13_apply]
  unfold sums Spec.kerMask
  rw [pay12_apply]
  exact congrArg₂ Ideal.div (exps_eq h b k p) (Finset.sum_congr rfl fun k' _ => exps_eq h b k' p)

/-- The reconstruction. -/
theorem recon_eq {v : FVec Ideal S128x1024 .f32} (hv : Position I v) (b : Fin 16) (o : Fin 96) (p : Fin 1024) :
    whole (k0_pay5 (F := Ideal) x0 x2 x3 x5) (exps x0 x1 x2 x3 x5) (sums x0 x1 x2 x3 x5) (rows v) (ix3 b o p)
      = Spec.kerRecon I (sample t b) p (o.castLE (by decide)) := by
  show recon _ _ _ b o p = _
  unfold recon Spec.kerRecon
  refine congrArg₂ (· + ·) (Finset.sum_congr rfl fun k _ => ?_) (hv (o.castLE (by decide)) p)
  rw [mask_eq h, pay5_apply]
  exact congrArg (· * _) (slot_eq h b k (o.castLE (by decide)))

end Cert.KernelPoint

end
-- ==== Proof.KernelHost.lean ====
/-
  WHAT THE REGION FINDS. Before the grid runs, the host places the decoder's weights and bias in arrays of 128 rows and gives the
  bias and the position embedding other shapes. Here: what the region's arrays hold at an index, in terms of the arguments.
-/
module

public import proofs.«01_k».proof.Proof.Gen.KernelIdeal.Frame
public import Idealize.ShloMosaic.PureOps.Ideal
public import Idealize.ShloMosaic.Lib.Pointwise
public import Idealize.ShloMosaic.Lib.Routing.OpsOne
public import Idealize.ShloMosaic.Lib.Routing.OpsSet

@[expose] public section

set_option maxRecDepth 16384

noncomputable section

namespace Cert.KernelHost

open Cert.KernelIdeal Cert.KernelIdeal.Gen
open Idealize.ShloMosaic Idealize.ShloMosaic.TcCoe Idealize.ShloMosaic.Pointwise Idealize.ShloMosaic.Routing

/-- The dimension numbers of the placing of the decoder's weights. -/
abbrev weights := scatter_S128x128_S1_S97x128_01_n_0_0

/-- With a zero index a row of the decoder's weights lands at its own place. -/
theorem lands (idx : IVec S1 32) (hidx : (idx (ix1 0)).toInt = 0) (o : Fin 97) (d : Fin 128) (r : Fin 128) (e : Fin 128) :
    weights.resultIdx? (ix2 o d) idx = some (ix2 r e) ↔ o.val = r.val ∧ d = e := by
  have e0 : weights.siIdx (ix2 o d) ⟨0, by decide⟩ = ix1 0 := by
    funext a
    match a with
    | ⟨0, _⟩ => rfl
  have s0 : weights.start (ix2 o d) idx (0 : Fin 2) = 0 := by
    unfold ScatterDims.start
    rw [dif_pos (by decide)]
    exact (congrArg (fun i => (idx i).toInt) e0).trans hidx
  have s1 : weights.start (ix2 o d) idx (1 : Fin 2) = 0 := by
    unfold ScatterDims.start
    rw [dif_neg (by decide)]
  have w0 : weights.window (ix2 o d) (0 : Fin 2) = o.val := rfl
  have w1 : weights.window (ix2 o d) (1 : Fin 2) = d.val := rfl
  rw [resultIdx?_eq_some]
  constructor
  · intro h
    have h0 := h (0 : Fin 2)
    have h1 := h (1 : Fin 2)
    rw [s0, w0, zero_add] at h0
    rw [s1, w1, zero_add] at h1
    exact ⟨by exact_mod_cast h0, Fin.ext (by exact_mod_cast h1)⟩
  · rintro ⟨h0, rfl⟩ a
    match a with
    | ⟨0, _⟩ => exact (congrArg₂ (fun (x : ℤ) (y : ℕ) => x + (y : ℤ)) s0 (w0.trans h0)).trans (zero_add _)
    | ⟨1, _⟩ => exact (congrArg₂ (fun (x : ℤ) (y : ℕ) => x + (y : ℤ)) s1 w1).trans (zero_add _)

/-- So the first 97 rows are the decoder's weights. -/
theorem place_weights (x : FVec Ideal S128x128 .f32) (idx : IVec S1 32) (hidx : (idx (ix1 0)).toInt = 0) (u : FVec Ideal S97x128 .f32)
    (o : Fin 97) (d : Fin 128) :
    Host.scatter weights (fun _ b => b) x idx u (ix2 (o.castLE (by decide)) d) = u (ix2 o d) := by
  refine scatter_set_hit weights _ _ _ _ _ ?_ (ix2 o d) ((lands idx hidx o d _ d).2 ⟨rfl, rfl⟩)
  intro j hj
  obtain ⟨o', d', rfl⟩ : ∃ (o' : Fin 97) (d' : Fin 128), j = ix2 o' d' := ⟨j 0, j 1, by
    funext a
    match a with
    | ⟨0, _⟩ => rfl
    | ⟨1, _⟩ => rfl⟩
  obtain ⟨h, rfl⟩ := (lands idx hidx o' d' _ d).1 hj
  rw [show o' = o from Fin.ext h]

/-- The first 97 entries of the column are the decoder's bias. -/
theorem place_bias (x : FVec Ideal S128x1 .f32) (idx : IVec S2 32) (h0 : (idx (ix1 (0 : Fin 2))).toInt = 0) (h1 : (idx (ix1 (1 : Fin 2))).toInt = 0)
    (u : FVec Ideal S97 .f32) (o : Fin 97) :
    Host.scatter scatter_S128x1_S2_S97_0_1_01_0 (fun _ b => b) x idx u (ix2 (o.castLE (by decide)) 0) = u (ix1 o) := by
  have key := scatter_column_signed scatter_S128x1_S2_S97_0_1_01_0 (by decide : 0 < 97) rfl rfl rfl x idx u (ix2 (o.castLE (by decide)) 0)
  have hc : (idx (ix1 (1 : Fin 2))).toInt = (((0 : Fin 1).val : ℕ) : ℤ) ∧ (idx (ix1 (0 : Fin 2))).toInt ≤ ((o.val : ℕ) : ℤ)
      ∧ ((o.val : ℕ) : ℤ) < (idx (ix1 (0 : Fin 2))).toInt + ((97 : ℕ) : ℤ) := by
    rw [h0, h1]
    exact ⟨rfl, Int.natCast_nonneg _, by omega⟩
  have hn : (((o.val : ℕ) : ℤ) - (idx (ix1 (0 : Fin 2))).toInt).toNat % 97 = o.val := by rw [h0]; omega
  exact key.trans ((if_pos hc).trans (congrArg u (congrArg ix1 (Fin.ext hn))))

/-- The position embedding without its unit axis. -/
theorem reshape_pos (y : FVec Ideal S1x1024x128 .f32) (p : Fin 1024) (d : Fin 128) :
    shapeCast S1024x128 y shapeCasts_S1x1024x128_S1024x128 (ix2 p d) = y (ix3 0 p d) := by
  pointwise

/-- The input bias as a row. -/
theorem reshape_bias (y : FVec Ideal S128 .f32) (d : Fin 128) :
    shapeCast S1x128 y shapeCasts_S128_S1x128 (ix2 0 d) = y (ix1 d) := by
  pointwise

variable (m : (ℓ : Loc nD τ sig) → Buf (Elt Ideal) ℓ) (c : Dev nD)

/-- The region's decoder weights. -/
theorem dec_apply (o : Fin 97) (d : Fin 128) :
    (V m c main_call0_v2 : FVec Ideal S128x128 .f32) (ix2 (o.castLE (by decide)) d)
      = (m ((c : Thread nD τ).loc main_arg5) : FVec Ideal S97x128 .f32) (ix2 o d) := by
  have e : (V m c main_call0_v2 : FVec Ideal S128x128 .f32)
      = Host.scatter weights (fun _ b => b) (broadcastInDim S128x128 ![] bcast_S_S128x128 (constant (F := Ideal) S_ .f32 0x00000000#32))
          (broadcastInDim S1 ![] bcast_S_S1 (constantI S_ 32 0#32)) (m ((c : Thread nD τ).loc main_arg5) : FVec Ideal S97x128 .f32) := by
    show StableHlo.after hostOps0 _ _ = _
    after_results
    simp -implicitDefEqProofs only [StableHlo.TRef.toBuf, StableHlo.TRef.ofBuf, cast_cast, cast_eq]
  rw [e]
  exact place_weights _ _ rfl _ o d

/-- The region's decoder bias. -/
theorem bdec_apply (o : Fin 97) :
    (V m c main_call0_v7 : FVec Ideal S128x1 .f32) (ix2 (o.castLE (by decide)) 0)
      = (m ((c : Thread nD τ).loc main_arg6) : FVec Ideal S97 .f32) (ix1 o) := by
  have e : (V m c main_call0_v7 : FVec Ideal S128x1 .f32)
      = Host.scatter scatter_S128x1_S2_S97_0_1_01_0 (fun _ b => b) (broadcastInDim S128x1 ![] bcast_S_S128x1 (constant (F := Ideal) S_ .f32 0x00000000#32))
          (concatenate S2 0 [⟨S1, broadcastInDim S1 ![] bcast_S_S1 (constantI S_ 32 0#32)⟩, ⟨S1, broadcastInDim S1 ![] bcast_S_S1 (constantI S_ 32 0#32)⟩]
            concatenates_S1_S1_S2_d0) (m ((c : Thread nD τ).loc main_arg6) : FVec Ideal S97 .f32) := by
    show StableHlo.after hostOps0 _ _ = _
    after_results
    simp -implicitDefEqProofs only [StableHlo.TRef.toBuf, StableHlo.TRef.ofBuf, cast_cast, cast_eq]
  rw [e]
  exact place_bias _ _ (by decide +kernel) (by decide +kernel) _ o

/-- The region's position embedding. -/
theorem pos_apply (p : Fin 1024) (d : Fin 128) :
    (V m c main_call0_v8 : FVec Ideal S1024x128 .f32) (ix2 p d)
      = (m ((c : Thread nD τ).loc main_arg4) : FVec Ideal S1x1024x128 .f32) (ix3 0 p d) := by
  have e : (V m c main_call0_v8 : FVec Ideal S1024x128 .f32)
      = shapeCast S1024x128 (m ((c : Thread nD τ).loc main_arg4) : FVec Ideal S1x1024x128 .f32) shapeCasts_S1x1024x128_S1024x128 := by
    show StableHlo.after hostOps0 _ _ = _
    after_results
    rfl
  rw [e]
  exact reshape_pos _ p d

/-- The region's input bias. -/
theorem bin_apply (d : Fin 128) :
    (V m c main_call0_v9 : FVec Ideal S1x128 .f32) (ix2 0 d) = (m ((c : Thread nD τ).loc main_arg3) : FVec Ideal S128 .f32) (ix1 d) := by
  have e : (V m c main_call0_v9 : FVec Ideal S1x128 .f32)
      = shapeCast S1x128 (m ((c : Thread nD τ).loc main_arg3) : FVec Ideal S128 .f32) shapeCasts_S128_S1x128 := by
    show StableHlo.after hostOps0 _ _ = _
    after_results
    rfl
  rw [e]
  exact reshape_bias _ d

end Cert.KernelHost

end
-- ==== Proof.RefTopK.lean ====
/-
  THE REFERENCE'S CHOICE OF SLOTS. The top-k of the reference names, for every sample and patch, the slots that hold the
  four greatest masks. Where no mask is -∞ its r-th index is the slot of the r-th round of picking (`Cert.Pick.pick`).
-/
module

public import proofs.«01_k».proof.Proof.Gen.ReferenceIdeal.Read
public import proofs.«01_k».proof.Proof.Pick
public import Idealize.ShloMosaic.Lib.Pointwise

@[expose] public section

set_option maxRecDepth 16384

noncomputable section

namespace Cert.RefTopK

open Cert.ReferenceIdeal Cert.ReferenceIdeal.Gen Cert.ReferenceIdeal.Read Cert.Pick
open Idealize.ShloMosaic Idealize.ShloMosaic.Pointwise

/-- The column of masks of sample `b` at patch `p`. -/
def column (x1 : FVec Ideal S32x16x1024 .f32) (b : Fin 32) (p : Fin 1024) : Fin 16 → EReal := fun k => x1 (ix3 b k p)

/-- A strict comparison of two extended reals, read as the sort reads it. -/
theorem gt_read (x y : EReal) : ((FloatOps.cmpfTotal (F := Ideal) (φ := .f32) .gt x y) == 1#1) = decide (y < x) := by
  change (BitVec.ofBool (decide (y < x)) == 1#1) = _
  by_cases h : y < x
  · rw [decide_eq_true h]; rfl
  · rw [decide_eq_false h]; rfl

/-- The transposed masks read along their last axis, at sample `b` and patch `p`. -/
theorem along_column (x1 : FVec Ideal S32x16x1024 .f32) (b : Fin 32) (p : Fin 1024) (J : S32x1024x16.Idx) (h0 : J 0 = b)
    (h1 : J 1 = p) (k : Fin 16) : val_main_v11 (F := Ideal) x1 (J.along (2 : Fin 3) k) = column x1 b p k := by
  rw [val_main_v11_apply]
  refine congrArg x1 (funext fun a => ?_)
  match a with
  | ⟨0, _⟩ => exact h0
  | ⟨1, _⟩ => rfl
  | ⟨2, _⟩ => exact h1

/-- The r-th index of the reference's top-k is the slot of the r-th round of picking. -/
theorem indices_apply (x1 : FVec Ideal S32x16x1024 .f32) (b : Fin 32) (p : Fin 1024) (r : Fin 4)
    (hm : ∀ k, ⊥ < column x1 b p k) :
    val_main_indices (F := Ideal) x1 (ix3 b p r) = BitVec.ofNat 32 (pick (column x1 b p) r.val).val := by
  unfold val_main_indices Host.topK
  dsimp only
  rw [← sortedFrom_eq_pick (column x1 b p) hm r]
  unfold extractStridedSlice Host.sort2
  rw [dif_pos (by decide)]
  dsimp only
  rw [dif_pos (by decide : 2 < 3)]
  unfold iotaInDim
  refine congrArg (BitVec.ofNat 32) ((congrArg Fin.val (Function.update_self (β := fun a => Fin (S32x1024x16.size a)) _ _ _)).trans ?_)
  refine congrArg Fin.val (congr (congrArg sortedFrom ?_) ?_)
  · funext k k'
    refine Eq.trans ?_ (gt_read (column x1 b p k) (column x1 b p k'))
    exact congrArg (· == 1#1) (congrArg₂ (FloatOps.cmpfTotal (F := Ideal) (φ := .f32) .gt)
      (along_column x1 b p _ (Fin.ext (Nat.zero_add b.val)) (Fin.ext (Nat.zero_add p.val)) k)
      (along_column x1 b p _ (Fin.ext (Nat.zero_add b.val)) (Fin.ext (Nat.zero_add p.val)) k'))
  · exact Fin.ext (Nat.zero_add _)

end Cert.RefTopK

end
-- ==== Proof.RefGather.lean ====
/-
  THE REFERENCE'S GATHERED ROWS. For every sample, round and patch the reference takes, from the decoder inputs of all the
  slots, the row of the slot picked in that round. The index is in range, so the range test passes and the row is the slot's.
-/
module

public import proofs.«01_k».proof.Proof.RefTopK

@[expose] public section

set_option maxRecDepth 16384

noncomputable section

namespace Cert.RefGather

open Cert.ReferenceIdeal Cert.ReferenceIdeal.Gen Cert.ReferenceIdeal.Read Cert.Pick Cert.RefTopK
open Idealize.ShloMosaic Idealize.ShloMosaic.Pointwise

/-- The dimension numbers of the gather. -/
abbrev rows := gather_S32x16x1024x128_S32x4x1024x128x1_S32x4x1024x128_n_1_023_023_1_4_1111

variable (x1 : FVec Ideal S32x16x1024 .f32)

/-- The picked slot as a word, repeated along the row. -/
theorem v14_apply (b : Fin 32) (r : Fin 4) (p : Fin 1024) (d : Fin 128) (hm : ∀ k, ⊥ < column x1 b p k) :
    val_main_v14 (F := Ideal) x1 (ix4 b r p d) = BitVec.ofNat 32 (pick (column x1 b p) r.val).val := by
  rw [val_main_v14_apply, val_main_v13_apply, val_main_v12_apply, ← indices_apply x1 b p r hm]
  refine congrArg _ (funext fun a => ?_)
  match a with
  | ⟨0, _⟩ => rfl
  | ⟨1, _⟩ => rfl
  | ⟨2, _⟩ => rfl

/-- A slot's word is not negative. -/
theorem word_nonneg (k : Fin 16) : IntOp.cmpi .slt (BitVec.ofNat 32 k.val) 0#32 = 0#1 := by revert k; decide

/-- A slot's word is at least zero. -/
theorem word_ge (k : Fin 16) : IntOp.cmpi .sge (BitVec.ofNat 32 k.val) 0#32 = 1#1 := by revert k; decide

/-- A slot's word is at most fifteen. -/
theorem word_le (k : Fin 16) : IntOp.cmpi .sle (BitVec.ofNat 32 k.val) 15#32 = 1#1 := by revert k; decide

/-- A slot's word read as a signed number is the slot. -/
theorem word_toInt (k : Fin 16) : (BitVec.ofNat 32 k.val).toInt = (k.val : ℤ) := by revert k; decide

/-- The index the gather reads is the picked slot's word. -/
theorem start_apply (b : Fin 32) (r : Fin 4) (p : Fin 1024) (d : Fin 128) (z : Fin 1) (hm : ∀ k, ⊥ < column x1 b p k) :
    val_main_call0_v5 (F := Ideal) x1 (ix5 b r p d z) = BitVec.ofNat 32 (pick (column x1 b p) r.val).val := by
  have e : idx_main_call0_v5 (ix5 b r p d z) = ix4 b r p d := by
    funext a; apply Fin.ext
    have h0 := b.isLt; have h1 := r.isLt; have h2 := p.isLt; have h3 := d.isLt; have h4 := z.isLt
    match a with
    | ⟨0, _⟩ => show ((((b.val * 4 + r.val) * 1024 + p.val) * 128 + d.val) * 1 + z.val) / 524288 = b.val; omega
    | ⟨1, _⟩ => show ((((b.val * 4 + r.val) * 1024 + p.val) * 128 + d.val) * 1 + z.val) / 131072 % 4 = r.val; omega
    | ⟨2, _⟩ => show ((((b.val * 4 + r.val) * 1024 + p.val) * 128 + d.val) * 1 + z.val) / 128 % 1024 = p.val; omega
    | ⟨3, _⟩ => show ((((b.val * 4 + r.val) * 1024 + p.val) * 128 + d.val) * 1 + z.val) % 128 = d.val; omega
  rw [val_main_call0_v5_apply, e, val_main_call0_v4_apply, val_main_call0_v1_apply, val_main_call0_v0_apply, val_main_call0_c_apply,
    v14_apply x1 b r p d hm, word_nonneg]
  rfl

/-- The range test passes. -/
theorem inRange_apply (b : Fin 32) (r : Fin 4) (p : Fin 1024) (d : Fin 128) (hm : ∀ k, ⊥ < column x1 b p k) :
    val_main_call0_v12 (F := Ideal) x1 (ix4 b r p d) = 1#1 := by
  have h : ∀ z : Fin 1, val_main_call0_v11 (F := Ideal) x1 (ix5 b r p d z) = 1#1 := fun z => by
    rw [val_main_call0_v11_apply, val_main_call0_v7_apply, val_main_call0_v10_apply, start_apply x1 b r p d z hm,
      val_main_call0_v6_apply, val_main_call0_c_2_apply, val_main_call0_v9_apply, val_main_call0_v8_apply, val_main_call0_c_1_apply,
      word_ge, word_le]
    rfl
  unfold val_main_call0_v12
  generalize hy : val_main_call0_v11 (F := Ideal) x1 = y at h
  pointwise [val_main_call0_c_3]
  rw [Finset.fold_congr (g := fun _ => 1#1) fun z _ => h z]
  rfl

/-- The gather reads, at result index (b, r, p, d), the operand at (b, index, p, d). -/
theorem operandIdx_apply (idx : IVec S32x4x1024x128x1 32) (b : Fin 32) (r : Fin 4) (p : Fin 1024) (d : Fin 128) (q : Fin 16)
    (hq : (idx (ix5 b r p d 0)).toInt = (q.val : ℤ)) :
    rows.operandIdx (ix4 b r p d) idx = ix4 b q p d := by
  funext a; apply Fin.ext
  match a with
  | ⟨0, _⟩ =>
    show rows.start (ix4 b r p d) idx (0 : Fin 4) + rows.batchCoord (ix4 b r p d) (0 : Fin 4) + rows.offCoord (ix4 b r p d) (0 : Fin 4) = b.val
    rw [GatherDims.start_batching _ _ _ _ (by decide), GatherDims.offCoord_eq_zero _ _ _ (by decide)]
    show 0 + b.val + 0 = b.val
    omega
  | ⟨1, _⟩ =>
    show rows.start (ix4 b r p d) idx (1 : Fin 4) + rows.batchCoord (ix4 b r p d) (1 : Fin 4) + rows.offCoord (ix4 b r p d) (1 : Fin 4) = q.val
    rw [GatherDims.batchCoord_eq_zero _ _ _ (by decide), GatherDims.offCoord_eq_zero _ _ _ (by decide)]
    unfold GatherDims.start
    rw [dif_pos (by decide)]
    have e : rows.siIdx (ix4 b r p d) ⟨0, by decide⟩ = ix5 b r p d 0 := by
      funext a
      match a with
      | ⟨0, _⟩ => rfl
      | ⟨1, _⟩ => rfl
      | ⟨2, _⟩ => rfl
      | ⟨3, _⟩ => rfl
      | ⟨4, _⟩ => rfl
    show min (idx (rows.siIdx (ix4 b r p d) ⟨0, by decide⟩)).toInt.toNat 15 + 0 + 0 = q.val
    rw [e, hq]
    have := q.isLt
    omega
  | ⟨2, _⟩ =>
    show rows.start (ix4 b r p d) idx (2 : Fin 4) + rows.batchCoord (ix4 b r p d) (2 : Fin 4) + rows.offCoord (ix4 b r p d) (2 : Fin 4) = p.val
    rw [GatherDims.start_batching _ _ _ _ (by decide), GatherDims.offCoord_eq_zero _ _ _ (by decide)]
    show 0 + p.val + 0 = p.val
    omega
  | ⟨3, _⟩ =>
    show rows.start (ix4 b r p d) idx (3 : Fin 4) + rows.batchCoord (ix4 b r p d) (3 : Fin 4) + rows.offCoord (ix4 b r p d) (3 : Fin 4) = d.val
    rw [GatherDims.start_batching _ _ _ _ (by decide), GatherDims.offCoord_eq_zero _ _ _ (by decide)]
    show 0 + d.val + 0 = d.val
    omega

/-- A gathered element is the picked slot's. -/
theorem v15_apply (x0 : FVec Ideal S32x16x128 .f32) (x2 : FVec Ideal S128x128 .f32) (x3 : FVec Ideal S128 .f32)
    (x4 : FVec Ideal S1x1024x128 .f32) (b : Fin 32) (r : Fin 4) (p : Fin 1024) (d : Fin 128) (hm : ∀ k, ⊥ < column x1 b p k) :
    val_main_v15 (F := Ideal) x0 x1 x2 x3 x4 (ix4 b r p d)
      = val_main_v10 (F := Ideal) x0 x2 x3 x4 (ix4 b (pick (column x1 b p) r.val) p d) := by
  rw [val_main_v15_apply, inRange_apply x1 b r p d hm]
  show val_main_call0_v13 (F := Ideal) x0 x1 x2 x3 x4 (ix4 b r p d) = _
  unfold val_main_call0_v13 Host.gather
  rw [operandIdx_apply _ b r p d _ ((congrArg BitVec.toInt (start_apply x1 b r p d 0 hm)).trans (word_toInt _))]

end Cert.RefGather

end
-- ==== Proof.RefOut.lean ====
/-
  THE REFERENCE'S FIRST RESULT AT AN INDEX. The decoder outputs of the picked slots, their softmax over the four rounds and the
  reconstruction, each read at an index as `Cert.Spec` states it.
-/
module

public import proofs.«01_k».proof.Proof.RefGather
public import proofs.«01_k».proof.Proof.Spec

@[expose] public section

set_option maxRecDepth 16384

noncomputable section

namespace Cert.RefOut

open Cert.ReferenceIdeal Cert.ReferenceIdeal.Gen Cert.ReferenceIdeal.Read Cert.Pick
open Idealize.ShloMosaic Idealize.ShloMosaic.Pointwise

variable (x0 : FVec Ideal S32x16x128 .f32) (x1 : FVec Ideal S32x16x1024 .f32) (x2 : FVec Ideal S128x128 .f32)
  (x3 : FVec Ideal S128 .f32) (x4 : FVec Ideal S1x1024x128 .f32) (x5 : FVec Ideal S97x128 .f32) (x6 : FVec Ideal S97 .f32)

/-- The reference's arguments by coordinates. -/
def args : Spec.In where
  slots b k j := x0 (ix3 b k j)
  masks b k p := x1 (ix3 b k p)
  win d j := x2 (ix2 d j)
  bin d := x3 (ix1 d)
  pos p d := x4 (ix3 0 p d)
  dec o d := x5 (ix2 o d)
  bdec o := x6 (ix1 o)

/-- A slot's embedding. -/
theorem v5_apply (n : Fin 512) (d : Fin 128) (b : Fin 32) (k : Fin 16) (hn : n.val = b.val * 16 + k.val) :
    val_main_v5 (F := Ideal) x0 x2 x3 (ix2 n d) = Spec.emb (args x0 x1 x2 x3 x4 x5 x6) b k d := by
  pointwise [val_main_v5, val_main_v4, val_main_v3, val_main_v2, val_main_v1, val_main_v0]
  have h1 : n.val / 16 = b.val := by have := k.isLt; omega
  have h2 : n.val % 16 = k.val := by have := k.isLt; omega
  unfold Spec.emb args
  dsimp only
  simp only [h1, h2]

/-- A decoder input: the slot's embedding and the position embedding. -/
theorem v10_apply (b : Fin 32) (k : Fin 16) (p : Fin 1024) (d : Fin 128) :
    val_main_v10 (F := Ideal) x0 x2 x3 x4 (ix4 b k p d) = Spec.emb (args x0 x1 x2 x3 x4 x5 x6) b k d + x4 (ix3 0 p d) := by
  have h := v5_apply x0 x1 x2 x3 x4 x5 x6 ⟨b.val * 16 + k.val, by have := b.isLt; have := k.isLt; omega⟩ d b k rfl
  rw [← h]
  unfold val_main_v10 val_main_v9 val_main_v8 val_main_v7 val_main_v6
  generalize val_main_v5 (F := Ideal) x0 x2 x3 = y
  pointwise

/-- The reshape of the decoder outputs. -/
theorem idx_v22 (b : Fin 32) (r : Fin 4) (p : Fin 1024) (o : Fin 97) (n : Fin 128) (hn : n.val = b.val * 4 + r.val) :
    idx_main_v22 (ix4 b r p o) = ix3 n p o := by
  funext a; apply Fin.ext
  have h0 := b.isLt; have h1 := r.isLt; have h2 := p.isLt; have h3 := o.isLt
  match a with
  | ⟨0, _⟩ => show (((b.val * 4 + r.val) * 1024 + p.val) * 97 + o.val) / 99328 = n.val; omega
  | ⟨1, _⟩ => show (((b.val * 4 + r.val) * 1024 + p.val) * 97 + o.val) / 97 % 1024 = p.val; omega
  | ⟨2, _⟩ => show (((b.val * 4 + r.val) * 1024 + p.val) * 97 + o.val) % 97 = o.val; omega

/-- The reshape of the gathered rows. -/
theorem idx_v16 (b : Fin 32) (r : Fin 4) (p : Fin 1024) (d : Fin 128) (n : Fin 128) (hn : n.val = b.val * 4 + r.val) :
    idx_main_v16 (ix3 n p d) = ix4 b r p d := by
  funext a; apply Fin.ext
  have h0 := b.isLt; have h1 := r.isLt; have h2 := p.isLt; have h3 := d.isLt
  match a with
  | ⟨0, _⟩ => show ((n.val * 1024 + p.val) * 128 + d.val) / 524288 = b.val; omega
  | ⟨1, _⟩ => show ((n.val * 1024 + p.val) * 128 + d.val) / 131072 % 4 = r.val; omega
  | ⟨2, _⟩ => show ((n.val * 1024 + p.val) * 128 + d.val) / 128 % 1024 = p.val; omega
  | ⟨3, _⟩ => show ((n.val * 1024 + p.val) * 128 + d.val) % 128 = d.val; omega

/-- The decoder bias, repeated. -/
theorem v20_apply (n : Fin 128) (p : Fin 1024) (o : Fin 97) : val_main_v20 (F := Ideal) x6 (ix3 n p o) = x6 (ix1 o) := by
  rw [val_main_v20_apply, val_main_v19_apply]
  refine congrArg x6 (funext fun a => ?_)
  match a with
  | ⟨0, _⟩ => rfl

/-- The decoder weights, transposed. -/
theorem v17_apply (n : Fin 128) (p : Fin 1024) (o : Fin 97) (d : Fin 128) :
    val_main_v17 (F := Ideal) x5 (ridx_main_v18 (ix3 n p o) d) = x5 (ix2 o d) := by
  rw [val_main_v17_apply]
  refine congrArg x5 (funext fun a => ?_)
  match a with
  | ⟨0, _⟩ => rfl
  | ⟨1, _⟩ => rfl

/-- The left factor's index. -/
theorem lidx_v18 (n : Fin 128) (p : Fin 1024) (o : Fin 97) (d : Fin 128) : lidx_main_v18 (ix3 n p o) d = ix3 n p d := by
  funext a
  match a with
  | ⟨0, _⟩ => rfl
  | ⟨1, _⟩ => rfl
  | ⟨2, _⟩ => rfl

/-- The decoder output of the slot of a round. -/
theorem v22_apply (b : Fin 32) (r : Fin 4) (p : Fin 1024) (o : Fin 97) (hm : ∀ k, ⊥ < RefTopK.column x1 b p k) :
    val_main_v22 (F := Ideal) x0 x1 x2 x3 x4 x5 x6 (ix4 b r p o) = Spec.refOut (args x0 x1 x2 x3 x4 x5 x6) b r p o := by
  have hn : b.val * 4 + r.val < 128 := by have := b.isLt; have := r.isLt; omega
  rw [val_main_v22_apply, idx_v22 b r p o ⟨b.val * 4 + r.val, hn⟩ rfl, val_main_v21_apply, val_main_v18_apply, v20_apply]
  refine congrArg₂ (fun x y : EReal => x + y) (Finset.sum_congr rfl fun d _ => ?_) rfl
  rw [v17_apply, lidx_v18, val_main_v16_apply, idx_v16 b r p d ⟨b.val * 4 + r.val, hn⟩ rfl,
    RefGather.v15_apply x1 x0 x2 x3 x4 b r p d hm, v10_apply x0 x1 x2 x3 x4 x5 x6]
  rfl

/-- The maximum over the rounds, at an index. -/
theorem max_rounds (y : FVec Ideal S32x4x1024x1 .f32) (b : Fin 32) (p : Fin 1024) (z : Fin 1) :
    Host.reduce (FloatOps.maximumf (F := Ideal) (φ := .f32)) y (val_main_cst (F := Ideal)) reducesTo_S32x4x1024x1_S32x1024x1_d1 h_S_ (ix3 b p z)
      = Finset.univ.fold max ⊥ fun r : Fin 4 => y (ix4 b r p z) := by
  pointwise [val_main_cst]
  rw [show Ideal.ofBits .f32 0xFF800000#32 = (⊥ : EReal) by simp [Ideal.ofBits, Ideal.ieee]]
  rw [Subsingleton.elim z 0]

end Cert.RefOut

end
-- ==== Proof.KernelArray.lean ====
/-
  THE TWO ARRAYS THE GRID LEAVES. What a point's input blocks hold, what each point leaves in its output blocks, and so what the two
  output arrays hold after the last point: the specification's reconstruction, pixels last, and its masks.
-/
module

public import proofs.«01_k».proof.Proof.KernelPoint
public import proofs.«01_k».proof.Proof.KernelHost
public import proofs.«01_k».proof.Proof.RefOut
public import Idealize.ShloMosaic.Lib.Pipeline.Value

@[expose] public section

set_option maxRecDepth 16384

noncomputable section

namespace Cert.KernelArray

open Cert.KernelIdeal Cert.KernelIdeal.Gen Cert.KernelPayload Cert.KernelBlock Cert.KernelPoint Cert.KernelHost
open Idealize.ShloMosaic Idealize.ShloMosaic.TcCoe Idealize.ShloMosaic.Pointwise

variable (m : (ℓ : Loc nD τ sig) → Buf (Elt Ideal) ℓ) (c : Dev nD)

/-- The arguments as launched, by coordinates. -/
def given : Spec.In :=
  RefOut.args (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- A grid point as a block number. -/
def point (t : Fin cfg0.N) : Fin 2 := ⟨t.val, lt_of_lt_of_eq t.isLt N_0⟩

/-! ## The input blocks -/

/-- The slots' window moves with the point. -/
theorem at0 : ∀ t : Fin cfg0.N, win0_0.index t (0 : Fin 3) = t.val ∧ win0_0.index t (1 : Fin 3) = 0 ∧ win0_0.index t (2 : Fin 3) = 0 :=
  (by decide +kernel : ∀ t : Fin grid0.N, _)
/-- The masks' window moves with the point. -/
theorem at1 : ∀ t : Fin cfg0.N, win0_1.index t (0 : Fin 3) = t.val ∧ win0_1.index t (1 : Fin 3) = 0 ∧ win0_1.index t (2 : Fin 3) = 0 :=
  (by decide +kernel : ∀ t : Fin grid0.N, _)
/-- The other input windows stay. -/
theorem at2 : ∀ t : Fin cfg0.N, ∀ a : Fin 2, win0_2.index t a = 0 ∧ win0_3.index t a = 0 ∧ win0_4.index t a = 0 ∧ win0_5.index t a = 0
    ∧ win0_6.index t a = 0 :=
  (by decide +kernel : ∀ t : Fin grid0.N, _)
/-- The output windows move with the point. -/
theorem at7 : ∀ t : Fin cfg0.N, win0_7.index t (0 : Fin 3) = t.val ∧ win0_7.index t (1 : Fin 3) = 0 ∧ win0_7.index t (2 : Fin 3) = 0 :=
  (by decide +kernel : ∀ t : Fin grid0.N, _)
/-- The output windows move with the point. -/
theorem at8 : ∀ t : Fin cfg0.N, win0_8.index t (0 : Fin 3) = t.val ∧ win0_8.index t (1 : Fin 3) = 0 ∧ win0_8.index t (2 : Fin 3) = 0 :=
  (by decide +kernel : ∀ t : Fin grid0.N, _)

/-- An index of three coordinates that agree. -/
theorem ix3_of {n0 n1 n2 : ℕ} (i : (⟨3, ![n0, n1, n2]⟩ : Shape).Idx) (a : Fin n0) (b : Fin n1) (d : Fin n2) (h0 : (i 0).val = a.val)
    (h1 : (i 1).val = b.val) (h2 : (i 2).val = d.val) : i = ix3 a b d := by
  funext z
  match z with
  | ⟨0, _⟩ => exact Fin.ext h0
  | ⟨1, _⟩ => exact Fin.ext h1
  | ⟨2, _⟩ => exact Fin.ext h2

/-- An index of two coordinates that agree. -/
theorem ix2_of {n0 n1 : ℕ} (i : (⟨2, ![n0, n1]⟩ : Shape).Idx) (a : Fin n0) (b : Fin n1) (h0 : (i 0).val = a.val)
    (h1 : (i 1).val = b.val) : i = ix2 a b := by
  funext z
  match z with
  | ⟨0, _⟩ => exact Fin.ext h0
  | ⟨1, _⟩ => exact Fin.ext h1

/-- A coordinate of a block that stays. -/
theorem stay {i n v : ℕ} (h : i = 0) : i * n + 1 * v = v := by rw [h]; omega
/-- A coordinate of a block that moves. -/
theorem move {i n v t : ℕ} (h : i = t) : i * n + 1 * v = t * n + v := by rw [h]; omega

/-- The slots' block. -/
theorem blk0 (t : Fin cfg0.N) (b k : Fin 16) (d : Fin 128) :
    (iblk m c 0 t : FVec Ideal S16x16x128 .f32) (ix3 b k d) = (given m c).slots (sample (point t) b) k d :=
  (congrFun (V_main_arg0 m c) _).trans (congrArg (m ((c : Thread nD τ).loc main_arg0) : FVec Ideal S32x16x128 .f32)
    (ix3_of _ (sample (point t) b) k d (move (at0 t).1) (stay (at0 t).2.1) (stay (at0 t).2.2)))

/-- The masks' block. -/
theorem blk1 (t : Fin cfg0.N) (b k : Fin 16) (p : Fin 1024) :
    (iblk m c 1 t : FVec Ideal S16x16x1024 .f32) (ix3 b k p) = (given m c).masks (sample (point t) b) k p :=
  (congrFun (V_main_arg1 m c) _).trans (congrArg (m ((c : Thread nD τ).loc main_arg1) : FVec Ideal S32x16x1024 .f32)
    (ix3_of _ (sample (point t) b) k p (move (at1 t).1) (stay (at1 t).2.1) (stay (at1 t).2.2)))

/-- The input weights. -/
theorem blk2 (t : Fin cfg0.N) (d j : Fin 128) : (iblk m c 2 t : FVec Ideal S128x128 .f32) (ix2 d j) = (given m c).win d j :=
  (congrFun (V_main_arg2 m c) _).trans (congrArg (m ((c : Thread nD τ).loc main_arg2) : FVec Ideal S128x128 .f32)
    (ix2_of _ d j (stay (at2 t 0).1) (stay (at2 t 1).1)))

/-- The input bias. -/
theorem blk3 (t : Fin cfg0.N) (d : Fin 128) : (iblk m c 3 t : FVec Ideal S1x128 .f32) (ix2 0 d) = (given m c).bin d :=
  (congrArg (V m c main_call0_v9 : FVec Ideal S1x128 .f32)
    (ix2_of _ 0 d (stay (at2 t 0).2.1) (stay (at2 t 1).2.1))).trans (bin_apply m c d)

/-- The position embedding. -/
theorem blk4 (t : Fin cfg0.N) (p : Fin 1024) (d : Fin 128) :
    (iblk m c 4 t : FVec Ideal S1024x128 .f32) (ix2 p d) = (given m c).pos p d :=
  (congrArg (V m c main_call0_v8 : FVec Ideal S1024x128 .f32)
    (ix2_of _ p d (stay (at2 t 0).2.2.1) (stay (at2 t 1).2.2.1))).trans (pos_apply m c p d)

/-- The decoder's weights. -/
theorem blk5 (t : Fin cfg0.N) (o : Fin 97) (d : Fin 128) :
    (iblk m c 5 t : FVec Ideal S128x128 .f32) (ix2 (o.castLE (by decide)) d) = (given m c).dec o d :=
  (congrArg (V m c main_call0_v2 : FVec Ideal S128x128 .f32)
    (ix2_of _ _ d (stay (at2 t 0).2.2.2.1) (stay (at2 t 1).2.2.2.1))).trans (dec_apply m c o d)

/-- The decoder's bias. -/
theorem blk6 (t : Fin cfg0.N) (o : Fin 97) :
    (iblk m c 6 t : FVec Ideal S128x1 .f32) (ix2 (o.castLE (by decide)) 0) = (given m c).bdec o :=
  (congrArg (V m c main_call0_v7 : FVec Ideal S128x1 .f32)
    (ix2_of _ _ 0 (stay (at2 t 0).2.2.2.2) (stay (at2 t 1).2.2.2.2))).trans (bdec_apply m c o)

/-- So the blocks hold the arguments' entries. -/
theorem holds (t : Fin cfg0.N) : Holds (given m c) (point t) (iblk m c 0 t) (iblk m c 1 t) (iblk m c 2 t) (iblk m c 3 t) (iblk m c 5 t) :=
  ⟨blk0 m c t, blk1 m c t, blk2 m c t, blk3 m c t, blk5 m c t⟩

/-! ## What a point leaves -/

/-- What a run of the body leaves that is the specification's: masks, reconstruction and the position part. -/
structure Leaves (t : Fin cfg0.N) (r : Vec Ideal S16x96x1024 .f32 × Vec Ideal S16x16x1024 .f32 × Vec Ideal S128x1024 .f32) : Prop where
  recon : ∀ (b : Fin 16) (o : Fin 96) (p : Fin 1024),
    r.1 (ix3 b o p) = Spec.kerRecon (given m c) (sample (point t) b) p (o.castLE (by decide))
  mask : ∀ (b k : Fin 16) (p : Fin 1024), r.2.1 (ix3 b k p) = Spec.kerMask (given m c) (sample (point t) b) k p
  position : Position (given m c) r.2.2

/-- The reconstruction where the position part is computed. -/
theorem first7 (t : Fin cfg0.N) (h0 : t.val % 2 = 0) : (outsAt0 m c t.val t.isLt).1 =
    whole (k0_pay5 (F := Ideal) (iblk m c 0 t) (iblk m c 2 t) (iblk m c 3 t) (iblk m c 5 t))
      (exps (iblk m c 0 t) (iblk m c 1 t) (iblk m c 2 t) (iblk m c 3 t) (iblk m c 5 t))
      (sums (iblk m c 0 t) (iblk m c 1 t) (iblk m c 2 t) (iblk m c 3 t) (iblk m c 5 t)) (rows (k0_pay4 (F := Ideal) (iblk m c 5 t) (iblk m c 4 t) (iblk m c 6 t))) := by
  refine Eq.trans ?_ (recon_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      scM0_0 (Memref.isWhole_whole _) (iblk m c 0 t) (iblk m c 1 t) (iblk m c 2 t) (iblk m c 3 t) (iblk m c 4 t) (iblk m c 5 t) (iblk m c 6 t) ((hcond0_0 t).mpr h0))
  rw [outsAt0_A m c t h0]

/-- The masks where the position part is computed. -/
theorem first8 (t : Fin cfg0.N) (h0 : t.val % 2 = 0) : (outsAt0 m c t.val t.isLt).2.1 =
    k0_pay13 (F := Ideal) (exps (iblk m c 0 t) (iblk m c 1 t) (iblk m c 2 t) (iblk m c 3 t) (iblk m c 5 t))
      (sums (iblk m c 0 t) (iblk m c 1 t) (iblk m c 2 t) (iblk m c 3 t) (iblk m c 5 t)) := by
  refine Eq.trans ?_ (masks_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      scM0_0 (Memref.isWhole_whole _) (iblk m c 0 t) (iblk m c 1 t) (iblk m c 2 t) (iblk m c 3 t) (iblk m c 4 t) (iblk m c 5 t) (iblk m c 6 t) ((hcond0_0 t).mpr h0))
  rw [outsAt0_A m c t h0]

/-- The scratch where the position part is computed. -/
theorem firstS (t : Fin cfg0.N) (h0 : t.val % 2 = 0) : (outsAt0 m c t.val t.isLt).2.2 =
    k0_pay4 (F := Ideal) (iblk m c 5 t) (iblk m c 4 t) (iblk m c 6 t) := by
  refine Eq.trans ?_ (scratch_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      scM0_0 (Memref.isWhole_whole _) (iblk m c 0 t) (iblk m c 1 t) (iblk m c 2 t) (iblk m c 3 t) (iblk m c 4 t) (iblk m c 5 t) (iblk m c 6 t) ((hcond0_0 t).mpr h0))
  rw [outsAt0_A m c t h0]

/-- What the scratch holds when a point starts that does not compute the position part. -/
abbrev carried (t : Fin cfg0.N) : FVec Ideal S128x1024 .f32 :=
  (outsAt0 m c (t.val - 1) (Nat.lt_of_le_of_lt (Nat.sub_le _ _) t.isLt)).2.2

/-- The reconstruction where the position part is found. -/
theorem later7 (t : Fin cfg0.N) (h0 : ¬t.val % 2 = 0) : (outsAt0 m c t.val t.isLt).1 =
    whole (k0_pay5 (F := Ideal) (iblk m c 0 t) (iblk m c 2 t) (iblk m c 3 t) (iblk m c 5 t))
      (exps (iblk m c 0 t) (iblk m c 1 t) (iblk m c 2 t) (iblk m c 3 t) (iblk m c 5 t))
      (sums (iblk m c 0 t) (iblk m c 1 t) (iblk m c 2 t) (iblk m c 3 t) (iblk m c 5 t)) (rows (carried m c t)) := by
  refine Eq.trans ?_ (recon_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      scM0_0 (Memref.isWhole_whole _) (iblk m c 0 t) (iblk m c 1 t) (iblk m c 2 t) (iblk m c 3 t) (iblk m c 4 t) (iblk m c 5 t) (iblk m c 6 t) (fun h => h0 ((hcond0_0 t).mp h)) (carried m c t))
  rw [outsAt0_B m c t h0]

/-- The masks where the position part is found. -/
theorem later8 (t : Fin cfg0.N) (h0 : ¬t.val % 2 = 0) : (outsAt0 m c t.val t.isLt).2.1 =
    k0_pay13 (F := Ideal) (exps (iblk m c 0 t) (iblk m c 1 t) (iblk m c 2 t) (iblk m c 3 t) (iblk m c 5 t))
      (sums (iblk m c 0 t) (iblk m c 1 t) (iblk m c 2 t) (iblk m c 3 t) (iblk m c 5 t)) := by
  refine Eq.trans ?_ (masks_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      scM0_0 (Memref.isWhole_whole _) (iblk m c 0 t) (iblk m c 1 t) (iblk m c 2 t) (iblk m c 3 t) (iblk m c 4 t) (iblk m c 5 t) (iblk m c 6 t) (fun h => h0 ((hcond0_0 t).mp h)) (carried m c t))
  rw [outsAt0_B m c t h0]

/-- The scratch where the position part is found. -/
theorem laterS (t : Fin cfg0.N) (h0 : ¬t.val % 2 = 0) : (outsAt0 m c t.val t.isLt).2.2 = carried m c t :=
  by rw [outsAt0_B m c t h0]; rfl

/-- A point that computes the position part. -/
theorem leaves_A (t : Fin cfg0.N) (h0 : t.val % 2 = 0) : Leaves m c t (outsAt0 m c t.val t.isLt) := by
  have hp : Position (given m c) (k0_pay4 (F := Ideal) (iblk m c 5 t) (iblk m c 4 t) (iblk m c 6 t)) :=
    position_of (given m c) _ _ _ (blk4 m c t) (blk5 m c t) (blk6 m c t)
  refine ⟨fun b o p => ?_, fun b k p => ?_, ?_⟩
  · rw [first7 m c t h0]
    exact recon_eq (holds m c t) hp b o p
  · rw [first8 m c t h0]
    exact mask_eq (holds m c t) b k p
  · rw [firstS m c t h0]
    exact hp

/-- A point that finds the position part in the scratch. -/
theorem leaves_B (t : Fin cfg0.N) (h0 : ¬t.val % 2 = 0) (hs : Position (given m c) (carried m c t)) :
    Leaves m c t (outsAt0 m c t.val t.isLt) := by
  refine ⟨fun b o p => ?_, fun b k p => ?_, ?_⟩
  · rw [later7 m c t h0]
    exact recon_eq (holds m c t) hs b o p
  · rw [later8 m c t h0]
    exact mask_eq (holds m c t) b k p
  · rw [laterS m c t h0]
    exact hs

/-- Every point. -/
theorem leaves (t : Fin cfg0.N) : Leaves m c t (outsAt0 m c t.val t.isLt) := by
  by_cases h0 : t.val % 2 = 0
  · exact leaves_A m c t h0
  · have hN := lt_of_lt_of_eq t.isLt N_0
    have hlt : t.val - 1 < cfg0.N := Nat.lt_of_le_of_lt (Nat.sub_le _ _) t.isLt
    exact leaves_B m c t h0 (leaves_A m c ⟨t.val - 1, hlt⟩ (by show (t.val - 1) % 2 = 0; omega)).position

/-! ## The arrays -/

/-- The reconstruction, pixels last. -/
def reconArr : FVec Ideal S32x96x1024 .f32 := fun i => Spec.kerRecon (given m c) (i 0) (i 2) ((i 1 : Fin 96).castLE (by decide))
/-- The masks. -/
def maskArr : FVec Ideal S32x16x1024 .f32 := fun i => Spec.kerMask (given m c) (i 0) (i 1) (i 2)

/-- What a point writes back of the reconstruction. -/
theorem written7 (t : Fin cfg0.N) :
    (dats m 0 c).flushed 7 t = ((cfg0.win 7).blk t).view.read (Elt Ideal) (reconArr m c) := by
  show (cfg0.win 7).cut (grid0.coords t) ((dats m 0 c).after 7 t) = _
  rw [after0_7]
  funext y
  have hx : (cfg0.win 7).xinj (grid0.coords t) y = ix3 (y 0 : Fin 16) (y 1 : Fin 96) (y 2 : Fin 1024) := ix3_of _ _ _ _ rfl rfl rfl
  have he : ((cfg0.win 7).blk t).view.emb y = ix3 (sample (point t) (y 0)) (y 1 : Fin 96) (y 2 : Fin 1024) :=
    ix3_of _ _ _ _ (move (at7 t).1) (stay (at7 t).2.1) (stay (at7 t).2.2)
  exact (congrArg (outsAt0 m c t.val t.isLt).1 hx).trans (((leaves m c t).recon _ _ _).trans (congrArg (reconArr m c) he).symm)

/-- What a point writes back of the masks. -/
theorem written8 (t : Fin cfg0.N) :
    (dats m 0 c).flushed 8 t = ((cfg0.win 8).blk t).view.read (Elt Ideal) (maskArr m c) := by
  show (cfg0.win 8).cut (grid0.coords t) ((dats m 0 c).after 8 t) = _
  rw [after0_8]
  funext y
  have hx : (cfg0.win 8).xinj (grid0.coords t) y = ix3 (y 0 : Fin 16) (y 1 : Fin 16) (y 2 : Fin 1024) := ix3_of _ _ _ _ rfl rfl rfl
  have he : ((cfg0.win 8).blk t).view.emb y = ix3 (sample (point t) (y 0)) (y 1 : Fin 16) (y 2 : Fin 1024) :=
    ix3_of _ _ _ _ (move (at8 t).1) (stay (at8 t).2.1) (stay (at8 t).2.2)
  exact (congrArg (outsAt0 m c t.val t.isLt).2.1 hx).trans (((leaves m c t).mask _ _ _).trans (congrArg (maskArr m c) he).symm)

/-- Every point writes both outputs back. -/
theorem back : ∀ t : Fin cfg0.N, (cfg0.win 7).flush t = true ∧ (cfg0.win 8).flush t = true :=
  (by decide +kernel : ∀ t : Fin grid0.N, _)

/-- The block that holds sample `n`. -/
def holder (n : Fin 32) : Fin cfg0.N := ⟨n.val / 16, by rw [show cfg0.N = 2 from N_0]; omega⟩

/-- Every index of the reconstruction lies in the block of its sample. -/
theorem covered7 (i : S32x96x1024.Idx) : ∃ t : Fin cfg0.N, (cfg0.win 7).flush t = true ∧ i ∈ ((cfg0.win 7).blk t).view.set := by
  refine ⟨holder (i 0), (back _).1, ?_⟩
  show i ∈ ((View.whole main_call0_v10_0).slice (win0_7.rect (holder (i 0)))).set
  rw [View.set_slice_whole, Rect.mem_set_unit]
  obtain ⟨e0, e1, e2⟩ := at7 (holder (i 0))
  have e0' : win0_7.index (holder (i 0)) (0 : Fin 3) = (i 0).val / 16 := e0
  have b0 : (i 0).val < 32 := (i 0).isLt
  have b1 : (i 1).val < 96 := (i 1).isLt
  have b2 : (i 2).val < 1024 := (i 2).isLt
  intro a
  match a with
  | ⟨0, _⟩ =>
    show win0_7.index _ (0 : Fin 3) * 16 ≤ (i 0).val ∧ (i 0).val < win0_7.index _ (0 : Fin 3) * 16 + 16
    rw [e0']; omega
  | ⟨1, _⟩ =>
    show win0_7.index _ (1 : Fin 3) * 96 ≤ (i 1).val ∧ (i 1).val < win0_7.index _ (1 : Fin 3) * 96 + 96
    rw [e1]; omega
  | ⟨2, _⟩ =>
    show win0_7.index _ (2 : Fin 3) * 1024 ≤ (i 2).val ∧ (i 2).val < win0_7.index _ (2 : Fin 3) * 1024 + 1024
    rw [e2]; omega

/-- Every index of the masks lies in the block of its sample. -/
theorem covered8 (i : S32x16x1024.Idx) : ∃ t : Fin cfg0.N, (cfg0.win 8).flush t = true ∧ i ∈ ((cfg0.win 8).blk t).view.set := by
  refine ⟨holder (i 0), (back _).2, ?_⟩
  show i ∈ ((View.whole main_v0_1).slice (win0_8.rect (holder (i 0)))).set
  rw [View.set_slice_whole, Rect.mem_set_unit]
  obtain ⟨e0, e1, e2⟩ := at8 (holder (i 0))
  have e0' : win0_8.index (holder (i 0)) (0 : Fin 3) = (i 0).val / 16 := e0
  have b0 : (i 0).val < 32 := (i 0).isLt
  have b1 : (i 1).val < 16 := (i 1).isLt
  have b2 : (i 2).val < 1024 := (i 2).isLt
  intro a
  match a with
  | ⟨0, _⟩ =>
    show win0_8.index _ (0 : Fin 3) * 16 ≤ (i 0).val ∧ (i 0).val < win0_8.index _ (0 : Fin 3) * 16 + 16
    rw [e0']; omega
  | ⟨1, _⟩ =>
    show win0_8.index _ (1 : Fin 3) * 16 ≤ (i 1).val ∧ (i 1).val < win0_8.index _ (1 : Fin 3) * 16 + 16
    rw [e1]; omega
  | ⟨2, _⟩ =>
    show win0_8.index _ (2 : Fin 3) * 1024 ≤ (i 2).val ∧ (i 2).val < win0_8.index _ (2 : Fin 3) * 1024 + 1024
    rw [e2]; omega

/-- After the grid the first output array is the reconstruction. -/
theorem array7 : (dats m 0 c).arrAt 7 cfg0.N = reconArr m c :=
  (dats m 0 c).arrAt_eq_of_cover 7 (reconArr m c) (fun t _ => written7 m c t) (fun i => covered7 i)

/-- After the grid the second output array is the masks. -/
theorem array8 : (dats m 0 c).arrAt 8 cfg0.N = maskArr m c :=
  (dats m 0 c).arrAt_eq_of_cover 8 (maskArr m c) (fun t _ => written8 m c t) (fun i => covered8 i)

end Cert.KernelArray

end
-- ==== Proof.KernelRun.lean ====
/-
  THE KERNEL'S RUN. After the grid the host turns the reconstruction's last two axes around; the masks are the second output array.
  Here: what both results hold at an index, and that the arguments end as they began.
-/
module

public import proofs.«01_k».proof.Proof.KernelArray

@[expose] public section

set_option maxRecDepth 16384

noncomputable section

namespace Cert.KernelRun

open Cert.KernelIdeal Cert.KernelIdeal.Gen Cert.KernelArray
open Idealize.ShloMosaic Idealize.ShloMosaic.TcCoe Idealize.ShloMosaic.Pointwise Idealize.SL.Sem

variable (m : (ℓ : Loc nD τ sig) → Buf (Elt Ideal) ℓ) (ρ : Dev nD → PrngReg)

/-- No two windows share an array. -/
theorem arrays_apart : Function.Injective (Pipeline.arrRef spec0) := by
  intro a b
  exact (by decide +kernel : ∀ a b, Pipeline.arrRef spec0 a = Pipeline.arrRef spec0 b → a = b) a b

/-- The first result, from the first output array. -/
theorem tail_eq (c : Dev nD) :
    (Pipeline.afterTail₀ cfgs (dats m) 0 (V0 m) [hostOps1] c main_v0_0 : FVec Ideal S32x1024x96 .f32)
      = transpose S32x1024x96 [0, 2, 1] (reconArr m c) transposes_S32x96x1024_S32x1024x96_0_2_1 := by
  have e : (Pipeline.withArrays spec0 c (V0 m c) (fun w => (dats m 0 c).arrAt w cfg0.N) (Proc.devRef .tc main_call0_v10_0)
      : FVec Ideal S32x96x1024 .f32) = reconArr m c :=
    (Pipeline.withArrays_arr spec0 arrays_apart c (V0 m c) (fun w => (dats m 0 c).arrAt w cfg0.N) 7).trans (array7 m c)
  rw [← e]
  show StableHlo.after hostOps1 _ _ = _
  after_results
  rfl

/-- The first result at an index. -/
theorem tail_apply (c : Dev nD) (b : Fin 32) (p : Fin 1024) (o : Fin 96) :
    (Pipeline.afterTail₀ cfgs (dats m) 0 (V0 m) [hostOps1] c main_v0_0 : FVec Ideal S32x1024x96 .f32) (ix3 b p o)
      = Spec.kerRecon (given m c) b p (o.castLE (by decide)) := by
  rw [tail_eq]
  pointwise []
  rfl

/-- The kernel's run: its results at every index, and its arguments unchanged. -/
theorem run : θ_run defs (onTc (τ := τ) (main (F := Ideal))) ⟨m, fun _ => 0, ρ⟩ fun r => ∀ c : Dev nD,
      r.2.mem ((c : Thread nD τ).loc main_v0_0) = Pipeline.afterTail₀ cfgs (dats m) 0 (V0 m) [hostOps1] c main_v0_0
      ∧ r.2.mem ((c : Thread nD τ).loc main_v0_1) = maskArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).2 main_v0_0 (Pipeline.mem_restRefs_of main_v0_0 (by decide) (by decide)),
      ((h c).1 8).trans (array8 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelRun

end
-- ==== Proof.RefSoftmax.lean ====
/-
  THE REFERENCE'S SOFTMAX AND RECONSTRUCTION AT AN INDEX. The softmax over the four rounds of the last decoder output, and the
  sum over the rounds of the decoder outputs under it.
-/
module

public import proofs.«01_k».proof.Proof.RefOut

@[expose] public section

set_option maxRecDepth 16384

noncomputable section

namespace Cert.RefSoftmax

open Cert.ReferenceIdeal Cert.ReferenceIdeal.Gen Cert.ReferenceIdeal.Read Cert.Pick Cert.RefOut
open Idealize.ShloMosaic Idealize.ShloMosaic.Pointwise

variable (x0 : FVec Ideal S32x16x128 .f32) (x1 : FVec Ideal S32x16x1024 .f32) (x2 : FVec Ideal S128x128 .f32)
  (x3 : FVec Ideal S128 .f32) (x4 : FVec Ideal S1x1024x128 .f32) (x5 : FVec Ideal S97x128 .f32) (x6 : FVec Ideal S97 .f32)

/-- The word of -∞ is the least extended real. -/
theorem ofBits_bot : FloatOps.ofBits (F := Ideal) .f32 0xFF800000#32 = (⊥ : EReal) := by
  show Ideal.ofBits .f32 0xFF800000#32 = _
  simp [Ideal.ofBits, Ideal.ieee]

/-- The zero word is zero. -/
theorem ofBits_zero : FloatOps.ofBits (F := Ideal) .f32 0x00000000#32 = (0 : EReal) := by
  show Ideal.ofBits .f32 0x00000000#32 = _
  simp [Ideal.ofBits, Ideal.ieee]

section
variable (b : Fin 32) (p : Fin 1024) (hm : ∀ k, ⊥ < RefTopK.column x1 b p k)
include hm

/-- The mask output of a round. -/
theorem v24_apply (r : Fin 4) (z : Fin 1) :
    val_main_v24 (F := Ideal) x0 x1 x2 x3 x4 x5 x6 (ix4 b r p z) = Spec.refOut (args x0 x1 x2 x3 x4 x5 x6) b r p 96 := by
  have e : idx_main_v24 (ix4 b r p z) = ix4 b r p 96 := by
    funext a
    match a with
    | ⟨0, _⟩ => rfl
    | ⟨1, _⟩ => rfl
    | ⟨2, _⟩ => rfl
    | ⟨3, _⟩ => exact Fin.ext (by show 96 + z.val = 96; have := z.isLt; omega)
  rw [val_main_v24_apply, e, v22_apply x0 x1 x2 x3 x4 x5 x6 b r p 96 hm]

/-- The greatest mask output. -/
theorem v27_apply (z : Fin 1) :
    val_main_v27 (F := Ideal) x0 x1 x2 x3 x4 x5 x6 (ix3 b p z) = Spec.refTop (args x0 x1 x2 x3 x4 x5 x6) b p := by
  rw [val_main_v27_apply, val_main_v26_apply, val_main_cst_0_apply, ofBits_bot]
  unfold val_main_v25 Spec.refTop
  rw [max_rounds, Finset.fold_congr fun r _ => v24_apply x0 x1 x2 x3 x4 x5 x6 b p hm r z]
  rfl

/-- The exponential of a round. -/
theorem v31_apply (r : Fin 4) (z : Fin 1) :
    val_main_v31 (F := Ideal) x0 x1 x2 x3 x4 x5 x6 (ix4 b r p z) = Spec.refExp (args x0 x1 x2 x3 x4 x5 x6) b r p := by
  have e : idx_main_v28 (idx_main_v29 (ix4 b r p z)) = ix3 b p 0 := by
    funext a
    match a with
    | ⟨0, _⟩ => rfl
    | ⟨1, _⟩ => rfl
    | ⟨2, _⟩ => rfl
  rw [val_main_v31_apply, val_main_v30_apply, val_main_v29_apply, val_main_v28_apply, e,
    v24_apply x0 x1 x2 x3 x4 x5 x6 b p hm r z, v27_apply x0 x1 x2 x3 x4 x5 x6 b p hm 0]
  rfl

/-- The softmax of a round. -/
theorem v35_apply (r : Fin 4) (z : Fin 1) :
    val_main_v35 (F := Ideal) x0 x1 x2 x3 x4 x5 x6 (ix4 b r p z) = Spec.refWeight (args x0 x1 x2 x3 x4 x5 x6) b r p := by
  have e : idx_main_v33 (idx_main_v34 (ix4 b r p z)) = ix3 b p 0 := by
    funext a
    match a with
    | ⟨0, _⟩ => rfl
    | ⟨1, _⟩ => rfl
    | ⟨2, _⟩ => rfl
  have e' : ∀ r' : Fin 4, idx_main_v32 (ix3 b p 0) r' = ix4 b r' p 0 := fun r' => by
    funext a
    match a with
    | ⟨0, _⟩ => rfl
    | ⟨1, _⟩ => rfl
    | ⟨2, _⟩ => rfl
    | ⟨3, _⟩ => rfl
  have h32 : val_main_v32 (F := Ideal) x0 x1 x2 x3 x4 x5 x6 (ix3 b p 0) = ∑ r' : Fin 4, Spec.refExp (args x0 x1 x2 x3 x4 x5 x6) b r' p := by
    rw [val_main_v32_apply, val_main_cst_1_apply, ofBits_zero, zero_add]
    refine Finset.sum_congr rfl fun r' _ => ?_
    rw [e', v31_apply x0 x1 x2 x3 x4 x5 x6 b p hm r' 0]
  rw [val_main_v35_apply, val_main_v34_apply, val_main_v33_apply, e, h32, v31_apply x0 x1 x2 x3 x4 x5 x6 b p hm r z]
  rfl

/-- THE REFERENCE'S FIRST RESULT: the reconstruction. -/
theorem v38_apply (o : Fin 96) :
    val_main_v38 (F := Ideal) x0 x1 x2 x3 x4 x5 x6 (ix3 b p o)
      = Spec.refRecon (args x0 x1 x2 x3 x4 x5 x6) b p (o.castLE (by decide)) := by
  have e : ∀ r : Fin 4, idx_main_v38 (ix3 b p o) r = ix4 b r p o := fun r => by
    funext a
    match a with
    | ⟨0, _⟩ => rfl
    | ⟨1, _⟩ => rfl
    | ⟨2, _⟩ => rfl
    | ⟨3, _⟩ => rfl
  have e23 : ∀ r : Fin 4, idx_main_v23 (ix4 b r p o) = ix4 b r p (o.castLE (by decide)) := fun r => by
    funext a
    match a with
    | ⟨0, _⟩ => rfl
    | ⟨1, _⟩ => rfl
    | ⟨2, _⟩ => rfl
    | ⟨3, _⟩ => rfl
  have e36 : ∀ r : Fin 4, idx_main_v36 (ix4 b r p o) = ix4 b r p 0 := fun r => by
    funext a
    match a with
    | ⟨0, _⟩ => rfl
    | ⟨1, _⟩ => rfl
    | ⟨2, _⟩ => rfl
    | ⟨3, _⟩ => rfl
  rw [val_main_v38_apply, val_main_cst_2_apply, ofBits_zero, zero_add]
  refine Finset.sum_congr rfl fun r _ => ?_
  rw [e, val_main_v37_apply, val_main_v23_apply, val_main_v36_apply, e23, e36, v22_apply x0 x1 x2 x3 x4 x5 x6 b r p _ hm,
    v35_apply x0 x1 x2 x3 x4 x5 x6 b p hm r 0]
  rfl

/-- The weights without their last axis. -/
theorem v39_apply (r : Fin 4) :
    val_main_v39 (F := Ideal) x0 x1 x2 x3 x4 x5 x6 (ix3 b r p) = Spec.refWeight (args x0 x1 x2 x3 x4 x5 x6) b r p := by
  have e : idx_main_v39 (ix3 b r p) = ix4 b r p 0 := by
    funext a; apply Fin.ext
    have h0 := b.isLt; have h1 := r.isLt; have h2 := p.isLt
    match a with
    | ⟨0, _⟩ => show ((b.val * 4 + r.val) * 1024 + p.val) / 4096 = b.val; omega
    | ⟨1, _⟩ => show ((b.val * 4 + r.val) * 1024 + p.val) / 1024 % 4 = r.val; omega
    | ⟨2, _⟩ => show ((b.val * 4 + r.val) * 1024 + p.val) / 1 % 1024 = p.val; omega
    | ⟨3, _⟩ => rfl
  rw [val_main_v39_apply, e, v35_apply x0 x1 x2 x3 x4 x5 x6 b p hm r 0]

end

end Cert.RefSoftmax

end
-- ==== Proof.RefScatter.lean ====
/-
  THE REFERENCE'S SECOND RESULT AT AN INDEX. The weights of the four rounds are written into an array of zeros, each at the
  slot its round picked: an entry holds the weight of the round that picked its slot, or zero.
-/
module

public import proofs.«01_k».proof.Proof.RefSoftmax
public import Idealize.ShloMosaic.Lib.Routing.OpsPair
public import Idealize.ShloMosaic.Lib.Routing.OpsSet

@[expose] public section

set_option maxRecDepth 16384

noncomputable section

namespace Cert.RefScatter

open Cert.ReferenceIdeal Cert.ReferenceIdeal.Gen Cert.ReferenceIdeal.Read Cert.Pick Cert.RefOut
open Idealize.ShloMosaic Idealize.ShloMosaic.Pointwise Idealize.ShloMosaic.Routing

/-- The dimension numbers of the scatter. -/
abbrev entries := scatter_S32x16x1024_S32x4x1024x3_S32x4x1024_n_012_012_3

/-- A sample's word read as a signed number is the sample. -/
theorem sample_toInt (b : Fin 32) : (BitVec.ofNat 32 b.val).toInt = (b.val : ℤ) := by revert b; decide

/-- A sample's word is not negative. -/
theorem sample_nonneg (b : Fin 32) : IntOp.cmpi .slt (BitVec.ofNat 32 b.val) 0#32 = 0#1 := by revert b; decide

/-- A patch's word read as a signed number is the patch. -/
theorem patch_toInt (p : Fin 1024) : (BitVec.ofNat 32 p.val).toInt = (p.val : ℤ) := by
  have h := p.isLt
  rw [BitVec.toInt_eq_toNat_of_lt (by rw [BitVec.toNat_ofNat]; omega), BitVec.toNat_ofNat]
  omega

/-- A patch's word is not negative. -/
theorem patch_nonneg (p : Fin 1024) : IntOp.cmpi .slt (BitVec.ofNat 32 p.val) 0#32 = 0#1 := by
  show BitVec.ofBool ((BitVec.ofNat 32 p.val).slt 0#32) = 0#1
  have : (BitVec.ofNat 32 p.val).slt 0#32 = false := by
    rw [BitVec.slt, patch_toInt]
    exact decide_eq_false (by show ¬((p.val : ℤ) < 0); omega)
  rw [this]
  rfl

variable (x0 : FVec Ideal S32x16x128 .f32) (x1 : FVec Ideal S32x16x1024 .f32) (x2 : FVec Ideal S128x128 .f32)
  (x3 : FVec Ideal S128 .f32) (x4 : FVec Ideal S1x1024x128 .f32) (x5 : FVec Ideal S97x128 .f32) (x6 : FVec Ideal S97 .f32)

/-- The sample's column of the scatter's index. -/
theorem v62_apply (b : Fin 32) (r : Fin 4) (p : Fin 1024) (z : Fin 1) :
    val_main_v62 (F := Ideal) (ix4 b r p z) = BitVec.ofNat 32 b.val := by
  have e : val_main_v41 (F := Ideal) (idx_main_v60 (idx_main_v62 (ix4 b r p z))) = BitVec.ofNat 32 b.val := by
    rw [val_main_v41_apply, val_main_v40_apply]; rfl
  rw [val_main_v62_apply, val_main_v60_apply, val_main_v49_apply, val_main_v46_apply, val_main_v45_apply, val_main_c_apply, e, sample_nonneg]
  rfl

/-- The slot's column of the scatter's index. -/
theorem v63_apply (b : Fin 32) (r : Fin 4) (p : Fin 1024) (z : Fin 1) (hm : ∀ k, ⊥ < RefTopK.column x1 b p k) :
    val_main_v63 (F := Ideal) x1 (ix4 b r p z) = BitVec.ofNat 32 (pick (RefTopK.column x1 b p) r.val).val := by
  have e : val_main_v12 (F := Ideal) x1 (idx_main_v63 (ix4 b r p z)) = BitVec.ofNat 32 (pick (RefTopK.column x1 b p) r.val).val := by
    rw [val_main_v12_apply, ← RefTopK.indices_apply x1 b p r hm]
    refine congrArg _ (funext fun a => ?_)
    match a with
    | ⟨0, _⟩ => rfl
    | ⟨1, _⟩ => rfl
    | ⟨2, _⟩ => rfl
  rw [val_main_v63_apply, val_main_v54_apply, val_main_v51_apply, val_main_v50_apply, val_main_c_5_apply, e, RefGather.word_nonneg]
  rfl

/-- The patch's column of the scatter's index. -/
theorem v64_apply (b : Fin 32) (r : Fin 4) (p : Fin 1024) (z : Fin 1) :
    val_main_v64 (F := Ideal) (ix4 b r p z) = BitVec.ofNat 32 p.val := by
  have e : val_main_v43 (F := Ideal) (idx_main_v61 (idx_main_v64 (ix4 b r p z))) = BitVec.ofNat 32 p.val := by
    rw [val_main_v43_apply, val_main_v42_apply]; rfl
  rw [val_main_v64_apply, val_main_v61_apply, val_main_v59_apply, val_main_v56_apply, val_main_v55_apply, val_main_c_7_apply, e, patch_nonneg]
  rfl

/-- Three columns side by side, read at each. -/
theorem three_columns (y0 y1 y2 : IVec S32x4x1024x1 32) (b : Fin 32) (r : Fin 4) (p : Fin 1024) :
    let t := concatenate S32x4x1024x3 3 [⟨S32x4x1024x1, y0⟩, ⟨S32x4x1024x1, y1⟩, ⟨S32x4x1024x1, y2⟩]
      concatenates_S32x4x1024x1_S32x4x1024x1_S32x4x1024x1_S32x4x1024x3_d3
    t (ix4 b r p 0) = y0 (ix4 b r p 0) ∧ t (ix4 b r p 1) = y1 (ix4 b r p 0) ∧ t (ix4 b r p 2) = y2 (ix4 b r p 0) := by
  refine ⟨?_, ?_, ?_⟩ <;> pointwise

/-- Where an update lands: at its index's three words. -/
theorem lands (idx : IVec S32x4x1024x3 32) (b : Fin 32) (r : Fin 4) (p : Fin 1024) (ι : S32x16x1024.Idx) :
    entries.resultIdx? (ix3 b r p) idx = some ι ↔
      (idx (ix4 b r p 0)).toInt = ((ι 0).val : ℤ) ∧ (idx (ix4 b r p 1)).toInt = ((ι 1).val : ℤ) ∧ (idx (ix4 b r p 2)).toInt = ((ι 2).val : ℤ) := by
  have e0 : entries.siIdx (ix3 b r p) ⟨0, by decide⟩ = ix4 b r p 0 := by
    funext a
    match a with
    | ⟨0, _⟩ => rfl
    | ⟨1, _⟩ => rfl
    | ⟨2, _⟩ => rfl
    | ⟨3, _⟩ => rfl
  have e1 : entries.siIdx (ix3 b r p) ⟨1, by decide⟩ = ix4 b r p 1 := by
    funext a
    match a with
    | ⟨0, _⟩ => rfl
    | ⟨1, _⟩ => rfl
    | ⟨2, _⟩ => rfl
    | ⟨3, _⟩ => rfl
  have e2 : entries.siIdx (ix3 b r p) ⟨2, by decide⟩ = ix4 b r p 2 := by
    funext a
    match a with
    | ⟨0, _⟩ => rfl
    | ⟨1, _⟩ => rfl
    | ⟨2, _⟩ => rfl
    | ⟨3, _⟩ => rfl
  have w : ∀ a : Fin 3, entries.window (ix3 b r p) a = 0 := fun a => by
    unfold ScatterDims.window
    rw [dif_neg (by revert a; decide)]
  have s0 : entries.start (ix3 b r p) idx (0 : Fin 3) = (idx (ix4 b r p 0)).toInt := by
    unfold ScatterDims.start
    rw [dif_pos (by decide)]
    exact congrArg (fun i => (idx i).toInt) e0
  have s1 : entries.start (ix3 b r p) idx (1 : Fin 3) = (idx (ix4 b r p 1)).toInt := by
    unfold ScatterDims.start
    rw [dif_pos (by decide)]
    exact congrArg (fun i => (idx i).toInt) e1
  have s2 : entries.start (ix3 b r p) idx (2 : Fin 3) = (idx (ix4 b r p 2)).toInt := by
    unfold ScatterDims.start
    rw [dif_pos (by decide)]
    exact congrArg (fun i => (idx i).toInt) e2
  rw [resultIdx?_eq_some]
  constructor
  · intro h
    have h0 := h (0 : Fin 3)
    have h1 := h (1 : Fin 3)
    have h2 := h (2 : Fin 3)
    rw [s0, w] at h0; rw [s1, w] at h1; rw [s2, w] at h2
    exact ⟨by rw [← h0]; exact (add_zero _).symm, by rw [← h1]; exact (add_zero _).symm, by rw [← h2]; exact (add_zero _).symm⟩
  · rintro ⟨h0, h1, h2⟩ a
    have hw := w a
    match a with
    | ⟨0, _⟩ => exact (congrArg₂ (fun (x : ℤ) (y : ℕ) => x + (y : ℤ)) (s0.trans h0) hw).trans (add_zero _)
    | ⟨1, _⟩ => exact (congrArg₂ (fun (x : ℤ) (y : ℕ) => x + (y : ℤ)) (s1.trans h1) hw).trans (add_zero _)
    | ⟨2, _⟩ => exact (congrArg₂ (fun (x : ℤ) (y : ℕ) => x + (y : ℤ)) (s2.trans h2) hw).trans (add_zero _)

/-- The update of a round at a sample and a patch lands at the sample, the picked slot and the patch. -/
theorem lands_pick (hm : ∀ b p k, ⊥ < RefTopK.column x1 b p k) (b : Fin 32) (r : Fin 4) (p : Fin 1024) (b' : Fin 32) (k : Fin 16) (p' : Fin 1024) :
    entries.resultIdx? (ix3 b r p) (val_main_v65 (F := Ideal) x1) = some (ix3 b' k p') ↔
      b = b' ∧ pick (RefTopK.column x1 b p) r.val = k ∧ p = p' := by
  obtain ⟨c0, c1, c2⟩ := three_columns (val_main_v62 (F := Ideal)) (val_main_v63 (F := Ideal) x1) (val_main_v64 (F := Ideal)) b r p
  have d0 := (congrArg BitVec.toInt (c0.trans (v62_apply b r p 0))).trans (sample_toInt b)
  have d1 := (congrArg BitVec.toInt (c1.trans (v63_apply x1 b r p 0 (hm b p)))).trans (RefGather.word_toInt _)
  have d2 := (congrArg BitVec.toInt (c2.trans (v64_apply b r p 0))).trans (patch_toInt p)
  rw [lands]
  constructor
  · rintro ⟨h0, h1, h2⟩
    refine ⟨Fin.ext ?_, Fin.ext ?_, Fin.ext ?_⟩
    · exact_mod_cast d0.symm.trans h0
    · exact_mod_cast d1.symm.trans h1
    · exact_mod_cast d2.symm.trans h2
  · rintro ⟨rfl, rfl, rfl⟩
    exact ⟨d0, d1, d2⟩

/-- THE REFERENCE'S SECOND RESULT: the masks. -/
theorem v66_apply (hm : ∀ b p k, ⊥ < RefTopK.column x1 b p k) (b : Fin 32) (k : Fin 16) (p : Fin 1024) :
    val_main_v66 (F := Ideal) x0 x1 x2 x3 x4 x5 x6 (ix3 b k p) = Spec.refMask (args x0 x1 x2 x3 x4 x5 x6) b k p := by
  have hinj := pick_injective _ (hm b p)
  unfold val_main_v66 Spec.refMask
  by_cases h : ∃ r : Fin 4, pick (RefTopK.column x1 b p) r.val = k
  · obtain ⟨r, hr⟩ := h
    rw [scatter_set_hit entries _ _ _ (ix3 b k p) (Spec.refWeight (args x0 x1 x2 x3 x4 x5 x6) b r p) ?_ (ix3 b r p)
      ((lands_pick x1 hm b r p b k p).2 ⟨rfl, hr, rfl⟩)]
    · rw [Finset.sum_eq_single r]
      · exact (if_pos hr).symm
      · intro r' _ hne
        exact if_neg fun hr' => hne (hinj (hr'.trans hr.symm))
      · intro hno; exact absurd (Finset.mem_univ r) hno
    · intro j hj
      obtain ⟨b', r', p', rfl⟩ : ∃ (b' : Fin 32) (r' : Fin 4) (p' : Fin 1024), j = ix3 b' r' p' := ⟨j 0, j 1, j 2, by
        funext a
        match a with
        | ⟨0, _⟩ => rfl
        | ⟨1, _⟩ => rfl
        | ⟨2, _⟩ => rfl⟩
      obtain ⟨rfl, hr', rfl⟩ := (lands_pick x1 hm b' r' p' b k p).1 hj
      rw [RefSoftmax.v39_apply x0 x1 x2 x3 x4 x5 x6 b' p' (hm b' p') r']
      rw [hinj (hr'.trans hr.symm)]
  · rw [scatter_set_miss entries _ _ _ (ix3 b k p) ?_]
    · rw [val_main_v44_apply, val_main_cst_3_apply, RefSoftmax.ofBits_zero]
      refine (Finset.sum_eq_zero fun r _ => if_neg fun hr => h ⟨r, hr⟩).symm
    · intro j hj
      obtain ⟨b', r', p', rfl⟩ : ∃ (b' : Fin 32) (r' : Fin 4) (p' : Fin 1024), j = ix3 b' r' p' := ⟨j 0, j 1, j 2, by
        funext a
        match a with
        | ⟨0, _⟩ => rfl
        | ⟨1, _⟩ => rfl
        | ⟨2, _⟩ => rfl⟩
      obtain ⟨rfl, hr', rfl⟩ := (lands_pick x1 hm b' r' p' b k p).1 hj
      exact h ⟨r', hr'⟩

end Cert.RefScatter

end
-- ==== Proof.Softmax.lean ====
/-
  THE EQUATION. Where the arguments are real numbers (the masks may be +∞ as well) the kernel's softmax over sixteen slots
  that is zero off the four picks is the reference's softmax over the picks put back at the slots: the position part of the
  mask output is the same for the four and cancels. The weights sum to one, so the position part of the reconstruction may be
  added once.
-/
module

public import proofs.«01_k».proof.Proof.Spec
public import Mathlib.Analysis.SpecialFunctions.Exp

@[expose] public section

noncomputable section

namespace Cert.Softmax

open Cert.Pick Cert.Spec Idealize.ShloMosaic

/-! ## Extended reals that are real -/

/-- A sum of reals is real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient by a positive real is the real quotient. -/
theorem div_coe (x y : ℝ) (hy : 0 < y) : Ideal.div (x : EReal) (y : EReal) = ((x / y : ℝ) : EReal) := by
  unfold Ideal.div
  rw [if_neg (by exact_mod_cast hy.ne'), div_eq_mul_inv, EReal.coe_mul, EReal.coe_inv]

/-- The exponential of a real. -/
theorem exp_coe (x : ℝ) : Ideal.exp (x : EReal) = ((Real.exp x : ℝ) : EReal) := rfl

/-- The greatest of finitely many extended reals, none +∞, is not +∞. -/
theorem fold_ne_top {ι : Type} (s : Finset ι) (f : ι → EReal) (h : ∀ i ∈ s, f i ≠ ⊤) : s.fold max ⊥ f ≠ ⊤ := by
  classical
  induction s using Finset.induction_on with
  | empty => simp
  | insert a s ha ih =>
    rw [Finset.fold_insert ha]
    intro e
    rcases max_choice (f a) (s.fold max ⊥ f) with h' | h'
    · exact h a (Finset.mem_insert_self a s) (h'.symm.trans e)
    · exact ih (fun i hi => h i (Finset.mem_insert_of_mem hi)) (h'.symm.trans e)

/-- If moreover one of them is real, the greatest is real. -/
theorem fold_real {ι : Type} (s : Finset ι) (f : ι → EReal) (h : ∀ i ∈ s, f i ≠ ⊤) (i : ι) (hi : i ∈ s) (hb : f i ≠ ⊥) :
    ∃ t : ℝ, s.fold max ⊥ f = (t : EReal) := by
  have hle : f i ≤ s.fold max ⊥ f := (Finset.le_fold_max (f i)).2 (Or.inr ⟨i, hi, le_refl _⟩)
  have hbot : s.fold max ⊥ f ≠ ⊥ := fun e => hb (le_bot_iff.1 (e ▸ hle))
  exact ⟨_, (EReal.coe_toReal (fold_ne_top s f h) hbot).symm⟩

/-! ## The softmax -/

section Weights

variable (q : Fin 4 → Fin 16) (hq : Function.Injective q) (a : Fin 16 → ℝ)

/-- The softmax over the picks. -/
def weight (r : Fin 4) : ℝ := Real.exp (a (q r)) / ∑ r' : Fin 4, Real.exp (a (q r'))

/-- The sum of the exponentials is positive. -/
theorem sum_pos (g : Fin 4 → ℝ) : 0 < ∑ r : Fin 4, Real.exp (g r) :=
  Finset.sum_pos (fun r _ => Real.exp_pos _) Finset.univ_nonempty

/-- The weights sum to one. -/
theorem weight_sum : ∑ r : Fin 4, weight q a r = 1 := by
  unfold weight
  rw [← Finset.sum_div, div_self (sum_pos fun r => a (q r)).ne']

/-- A common shift cancels. -/
theorem weight_shift (c : ℝ) (r : Fin 4) :
    Real.exp (a (q r) + c) / ∑ r' : Fin 4, Real.exp (a (q r') + c) = weight q a r := by
  unfold weight
  simp only [Real.exp_add]
  rw [← Finset.sum_mul, mul_div_mul_right _ _ (Real.exp_pos c).ne']

include hq in
/-- A sum over the slots of what is zero off the picks is the sum over the picks. -/
theorem sum_picked (g : Fin 16 → ℝ) : (∑ k : Fin 16, if ∃ r, q r = k then g k else 0) = ∑ r : Fin 4, g (q r) := by
  classical
  rw [← Finset.sum_filter]
  have : (Finset.univ.filter fun k => ∃ r, q r = k) = Finset.univ.image q := by
    ext k; simp
  rw [this, Finset.sum_image fun x _ y _ h => hq h]

include hq in
/-- The weight put back at a slot. -/
theorem put_back (g : Fin 16 → ℝ) (k : Fin 16) :
    (∑ r : Fin 4, if q r = k then g (q r) else 0) = if ∃ r, q r = k then g k else 0 := by
  by_cases h : ∃ r, q r = k
  · obtain ⟨r, rfl⟩ := h
    rw [if_pos ⟨r, rfl⟩, Finset.sum_eq_single r (fun r' _ hne => if_neg fun e => hne (hq e)) (fun hno => absurd (Finset.mem_univ r) hno), if_pos rfl]
  · rw [if_neg h]
    exact Finset.sum_eq_zero fun r _ => if_neg fun e => h ⟨r, e⟩

end Weights

/-! ## The two programs -/

/-- The arguments the equation asks for: every one real, the masks above -∞. -/
structure Finite (I : In) : Prop where
  slots : ∀ b k j, ∃ t : ℝ, I.slots b k j = t
  win : ∀ d j, ∃ t : ℝ, I.win d j = t
  bin : ∀ d, ∃ t : ℝ, I.bin d = t
  pos : ∀ p d, ∃ t : ℝ, I.pos p d = t
  dec : ∀ o d, ∃ t : ℝ, I.dec o d = t
  bdec : ∀ o, ∃ t : ℝ, I.bdec o = t
  masks : ∀ b k p, ⊥ < I.masks b k p

variable {I : In} (h : Finite I)
include h

/-- The picks of a column differ. -/
theorem choice_injective (b : Fin 32) (p : Fin 1024) : Function.Injective (choice I b p) :=
  pick_injective (column I b p) fun k => h.masks b k p

/-- Decoder outputs are real, and a round's is its slot's plus the position part. -/
theorem outputs_real : ∃ (S : Fin 32 → Fin 16 → Fin 97 → ℝ) (P : Fin 97 → Fin 1024 → ℝ),
    (∀ b k o, slotOut I b k o = (S b k o : EReal)) ∧ (∀ o p, posOut I o p = (P o p : EReal)) ∧
      ∀ b r p o, refOut I b r p o = ((S b (choice I b p r) o + P o p : ℝ) : EReal) := by
  choose s hs using h.slots
  choose w hw using h.win
  choose bi hbi using h.bin
  choose po hpo using h.pos
  choose de hde using h.dec
  choose bd hbd using h.bdec
  have he : ∀ b k d, emb I b k d = ((∑ j, s b k j * w d j + bi d : ℝ) : EReal) := fun b k d => by
    unfold emb
    simp only [hs, hw, hbi, EReal.coe_add, coe_sum, EReal.coe_mul]
  refine ⟨fun b k o => ∑ d, (∑ j, s b k j * w d j + bi d) * de o d, fun o p => ∑ d, de o d * po p d + bd o,
    fun b k o => ?_, fun o p => ?_, fun b r p o => ?_⟩
  · unfold slotOut
    simp only [he, hde, coe_sum, EReal.coe_mul]
  · unfold posOut
    simp only [hde, hpo, hbd, coe_sum, EReal.coe_mul, EReal.coe_add]
  · have e : ((∑ d, (∑ j, s b (choice I b p r) j * w d j + bi d) * de o d) + (∑ d, de o d * po p d + bd o) : ℝ)
        = ∑ d, ((∑ j, s b (choice I b p r) j * w d j + bi d) + po p d) * de o d + bd o := by
      rw [← add_assoc, ← Finset.sum_add_distrib]
      exact congrArg (· + bd o) (Finset.sum_congr rfl fun d _ => by ring)
    rw [e]
    unfold refOut
    rw [EReal.coe_add, coe_sum, hbd]
    refine congrArg (· + (bd o : EReal)) (Finset.sum_congr rfl fun d _ => ?_)
    rw [he, hpo, hde, EReal.coe_mul, EReal.coe_add (∑ j, s b (choice I b p r) j * w d j + bi d) (po p d)]

/-- Both weights are the softmax over the picks of the slots' mask outputs. -/
theorem weights (S : Fin 32 → Fin 16 → Fin 97 → ℝ) (P : Fin 97 → Fin 1024 → ℝ) (hS : ∀ b k o, slotOut I b k o = (S b k o : EReal))
    (hR : ∀ b r p o, refOut I b r p o = ((S b (choice I b p r) o + P o p : ℝ) : EReal)) (b : Fin 32) (p : Fin 1024) :
    (∀ r, refWeight I b r p = (weight (choice I b p) (fun k => S b k 96) r : EReal)) ∧
      ∀ k, kerMask I b k p
        = ((if ∃ r, choice I b p r = k then Real.exp (S b k 96) / ∑ r : Fin 4, Real.exp (S b (choice I b p r) 96) else 0 : ℝ) : EReal) := by
  have hq := choice_injective h b p
  constructor
  · obtain ⟨T, hT⟩ : ∃ T : ℝ, refTop I b p = (T : EReal) := by
      obtain ⟨T, hT⟩ := fold_real Finset.univ (fun r : Fin 4 => refOut I b r p 96) (fun r _ => by rw [hR]; exact EReal.coe_ne_top _) 0
        (Finset.mem_univ _) (by rw [hR]; exact EReal.coe_ne_bot _)
      exact ⟨T, by unfold refTop; rw [hT, max_eq_right bot_le]⟩
    have hE : ∀ r, refExp I b r p = ((Real.exp (S b (choice I b p r) 96 + (P 96 p - T)) : ℝ) : EReal) := fun r => by
      unfold refExp
      rw [hR, hT, ← EReal.coe_sub, exp_coe]
      exact congrArg (fun x : ℝ => ((Real.exp x : ℝ) : EReal)) (by ring)
    intro r
    unfold refWeight
    rw [hE, Finset.sum_congr rfl fun r' _ => hE r', ← coe_sum, div_coe _ _ (sum_pos _)]
    exact congrArg _ (weight_shift (choice I b p) (fun k => S b k 96) (P 96 p - T) r)
  · obtain ⟨M, hM⟩ : ∃ M : ℝ, kerTop I b p = (M : EReal) := by
      refine fold_real Finset.univ _ (fun k _ => ?_) (choice I b p 0) (Finset.mem_univ _) ?_
      · split
        · rw [hS]; exact EReal.coe_ne_top _
        · exact bot_ne_top
      · rw [if_pos ⟨0, rfl⟩, hS]; exact EReal.coe_ne_bot _
    have hE : ∀ k, kerExp I b k p = ((if ∃ r, choice I b p r = k then Real.exp (S b k 96 + -M) else 0 : ℝ) : EReal) := fun k => by
      unfold kerExp
      split
      · rw [hS, hM, ← EReal.coe_sub, exp_coe, sub_eq_add_neg]
      · rfl
    intro k
    unfold kerMask
    rw [hE, Finset.sum_congr rfl fun k' _ => hE k', ← coe_sum, sum_picked _ hq, div_coe _ _ (sum_pos _)]
    refine congrArg _ ?_
    split
    · next hk =>
      obtain ⟨r, rfl⟩ := hk
      exact weight_shift (choice I b p) (fun k => S b k 96) (-M) r
    · exact zero_div _

/-- THE MASKS AGREE. -/
theorem mask_eq (b : Fin 32) (k : Fin 16) (p : Fin 1024) : kerMask I b k p = refMask I b k p := by
  obtain ⟨S, P, hS, hP, hR⟩ := outputs_real h
  obtain ⟨hw, hk⟩ := weights h S P hS hR b p
  rw [hk, ← put_back _ (choice_injective h b p) (fun k => Real.exp (S b k 96) / ∑ r : Fin 4, Real.exp (S b (choice I b p r) 96)), coe_sum]
  unfold refMask
  refine Finset.sum_congr rfl fun r _ => ?_
  split
  · rw [hw]; rfl
  · rfl

/-- THE RECONSTRUCTIONS AGREE. -/
theorem recon_eq (b : Fin 32) (p : Fin 1024) (o : Fin 97) : kerRecon I b p o = refRecon I b p o := by
  obtain ⟨S, P, hS, hP, hR⟩ := outputs_real h
  obtain ⟨hw, hk⟩ := weights h S P hS hR b p
  have hl : kerRecon I b p o = ((∑ k : Fin 16, (if ∃ r, choice I b p r = k then S b k o *
      (Real.exp (S b k 96) / ∑ r : Fin 4, Real.exp (S b (choice I b p r) 96)) else 0) + P o p : ℝ) : EReal) := by
    unfold kerRecon
    rw [EReal.coe_add, coe_sum, hP]
    refine congrArg (· + (P o p : EReal)) (Finset.sum_congr rfl fun k _ => ?_)
    rw [hS, hk, ← EReal.coe_mul]
    refine congrArg _ ?_
    split
    · rfl
    · exact mul_zero _
  have hr : refRecon I b p o
      = ((∑ r : Fin 4, (S b (choice I b p r) o + P o p) * weight (choice I b p) (fun k => S b k 96) r : ℝ) : EReal) := by
    unfold refRecon
    rw [coe_sum]
    refine Finset.sum_congr rfl fun r _ => ?_
    rw [hR, hw, ← EReal.coe_mul]
  rw [hl, hr, sum_picked _ (choice_injective h b p)]
  refine congrArg _ ?_
  simp only [add_mul]
  rw [Finset.sum_add_distrib, ← Finset.mul_sum, weight_sum, mul_one]
  rfl

end Cert.Softmax

end
-- ==== Proof.Equal.lean ====
/-
  THE TWO RESULTS ARE THE SAME. Where the arguments are finite, whatever array holds the kernel's reconstruction holds the
  reference's first result, and whatever array holds the kernel's masks holds the reference's second.
-/
module

public import proofs.«01_k».proof.Proof.RefScatter
public import proofs.«01_k».proof.Proof.Softmax

@[expose] public section

set_option maxRecDepth 16384

noncomputable section

namespace Cert.Equal

open Cert.ReferenceIdeal Cert.ReferenceIdeal.Gen Cert.ReferenceIdeal.Read Cert.RefOut
open Idealize.ShloMosaic Idealize.ShloMosaic.Pointwise

/-- An index of three coordinates is the one they make. -/
theorem eta3 {n0 n1 n2 : ℕ} (i : (⟨3, ![n0, n1, n2]⟩ : Shape).Idx) : i = ix3 (i 0) (i 1) (i 2) := by
  funext z
  match z with
  | ⟨0, _⟩ => rfl
  | ⟨1, _⟩ => rfl
  | ⟨2, _⟩ => rfl

variable (x0 : FVec Ideal S32x16x128 .f32) (x1 : FVec Ideal S32x16x1024 .f32) (x2 : FVec Ideal S128x128 .f32)
  (x3 : FVec Ideal S128 .f32) (x4 : FVec Ideal S1x1024x128 .f32) (x5 : FVec Ideal S97x128 .f32) (x6 : FVec Ideal S97 .f32)
  (hf : Softmax.Finite (args x0 x1 x2 x3 x4 x5 x6))

include hf

/-- The reference's first result is the kernel's reconstruction. -/
theorem first (K : FVec Ideal S32x1024x96 .f32)
    (hK : ∀ (b : Fin 32) (p : Fin 1024) (o : Fin 96),
      K (ix3 b p o) = Spec.kerRecon (args x0 x1 x2 x3 x4 x5 x6) b p (o.castLE (by decide))) :
    val_main_v38 (F := Ideal) x0 x1 x2 x3 x4 x5 x6 = K := by
  funext i
  have key : ∀ (b : Fin 32) (p : Fin 1024) (o : Fin 96), val_main_v38 (F := Ideal) x0 x1 x2 x3 x4 x5 x6 (ix3 b p o) = K (ix3 b p o) :=
    fun b p o => (RefSoftmax.v38_apply x0 x1 x2 x3 x4 x5 x6 b p (fun k => hf.masks b k p) o).trans
      ((Softmax.recon_eq hf b p _).symm.trans (hK b p o).symm)
  rw [eta3 i]
  exact key _ _ _

/-- The reference's second result is the kernel's masks. -/
theorem second (K : FVec Ideal S32x16x1024 .f32)
    (hK : ∀ (b : Fin 32) (k : Fin 16) (p : Fin 1024), K (ix3 b k p) = Spec.kerMask (args x0 x1 x2 x3 x4 x5 x6) b k p) :
    val_main_v66 (F := Ideal) x0 x1 x2 x3 x4 x5 x6 = K := by
  funext i
  have key : ∀ (b : Fin 32) (k : Fin 16) (p : Fin 1024), val_main_v66 (F := Ideal) x0 x1 x2 x3 x4 x5 x6 (ix3 b k p) = K (ix3 b k p) :=
    fun b k p => (RefScatter.v66_apply x0 x1 x2 x3 x4 x5 x6 (fun b p k => hf.masks b k p) b k p).trans
      ((Softmax.mask_eq hf b k p).symm.trans (hK b k p).symm)
  rw [eta3 i]
  exact key _ _ _

end Cert.Equal

end
-- ==== Proof.PreFacts.lean ====
/-
  WHAT THE PRECONDITION SAYS. Where the predicate over the arguments comes out true, every mask lies above minus infinity and every
  entry of the other arguments is a real number.
-/
module

public import proofs.«01_k».proof.Proof.Gen.Pre_finite
public import proofs.«01_k».proof.Proof.RefOut
public import proofs.«01_k».proof.Proof.Softmax
public import proofs.«01_k».proof.Proof.KernelRound
public import Idealize.ShloMosaic.Lib.ReduceAll

@[expose] public section

set_option maxRecDepth 16384

noncomputable section

namespace Cert.PreFacts

open Cert.Pre_finite Idealize.ShloMosaic Idealize.ShloMosaic.Pointwise

/-- The pattern of plus infinity. -/
theorem ofBits_top : (FloatOps.ofBits .f32 0x7F800000#32 : Ideal .f32) = (⊤ : EReal) := by
  show Ideal.ofBits .f32 0x7F800000#32 = ⊤
  simp [Ideal.ofBits, Ideal.ieee]

/-- A comparison word that is one says that the comparison holds. -/
theorem of_word {P : Prop} [Decidable P] (h : BitVec.ofBool (decide P) = 1#1) : P := by
  by_contra hP
  rw [decide_eq_false hP] at h
  exact absurd h (by decide)

/-- An extended real whose magnitude lies below plus infinity is a real number. -/
theorem real_of (x : EReal) (h : max x (-x) < ⊤) : ∃ t : ℝ, x = t := by
  induction x using EReal.rec with
  | bot => exact absurd h (by simp)
  | top => exact absurd h (by simp)
  | coe t => exact ⟨t, rfl⟩

/-- One conjunct of the predicate over an array: all its entries are real numbers. -/
theorem reals {s : Shape} {axes : List (Fin s.rank)} (x : FVec Ideal s .f32) (hb : S_.BroadcastsInDim s ![]) (hr : s.ReducesTo axes S_)
    (h0 : 0 < S_.numel) (j : S_.Idx)
    (e : Host.reduce IntOp.andi (cmpf .olt (Host.absf x) (broadcastInDim s ![] hb (constant (F := Ideal) S_ .f32 0x7F800000#32)))
      (constantI S_ 1 1#1) hr h0 j = 1#1) (i : s.Idx) : ∃ t : ℝ, x i = (t : EReal) := by
  haveI : Subsingleton S_.Idx := ⟨fun a b => funext fun k => k.elim0⟩
  have h := Host.reduce_andi_all _ _ hr h0 j e i
  have h2 : max (x i) (-(x i)) < (FloatOps.ofBits .f32 0x7F800000#32 : Ideal .f32) := of_word h
  rw [ofBits_top] at h2
  exact real_of _ h2

/-- One conjunct of the predicate over an array: all its entries lie above minus infinity. -/
theorem aboves {s : Shape} {axes : List (Fin s.rank)} (x : FVec Ideal s .f32) (hb : S_.BroadcastsInDim s ![]) (hr : s.ReducesTo axes S_)
    (h0 : 0 < S_.numel) (j : S_.Idx)
    (e : Host.reduce IntOp.andi (cmpf .ogt x (broadcastInDim s ![] hb (constant (F := Ideal) S_ .f32 0xFF800000#32)))
      (constantI S_ 1 1#1) hr h0 j = 1#1) (i : s.Idx) : (⊥ : EReal) < x i := by
  haveI : Subsingleton S_.Idx := ⟨fun a b => funext fun k => k.elim0⟩
  have h := Host.reduce_andi_all _ _ hr h0 j e i
  have h2 : (FloatOps.ofBits .f32 0xFF800000#32 : Ideal .f32) < x i := of_word h
  rwa [show (FloatOps.ofBits .f32 0xFF800000#32 : Ideal .f32) = (⊥ : EReal) from KernelRound.ofBits_bot] at h2

/-- A conjunction of predicates that is one has both conjuncts one. -/
theorem both {a b : IVec S_ 1} {j : S_.Idx} (h : andi a b j = 1#1) : a j = 1#1 ∧ b j = 1#1 := IntOp.andi_eq_one.1 h

/-- What the predicate gives. -/
theorem finite_of (x0 : FVec Ideal S32x16x128 .f32) (x1 : FVec Ideal S32x16x1024 .f32) (x2 : FVec Ideal S128x128 .f32)
    (x3 : FVec Ideal S128 .f32) (x4 : FVec Ideal S1x1024x128 .f32) (x5 : FVec Ideal S97x128 .f32) (x6 : FVec Ideal S97 .f32)
    (h : Pre_finite.fn (F := Ideal) x0 x1 x2 x3 x4 x5 x6 = fun _ => 1#1) : Softmax.Finite (RefOut.args x0 x1 x2 x3 x4 x5 x6) := by
  have e := congrFun h (fun k => k.elim0)
  unfold Pre_finite.fn Pre_finite.fn_part1 at e
  dsimp only at e
  obtain ⟨e, h6⟩ := both e
  obtain ⟨e, h5⟩ := both e
  obtain ⟨e, h4⟩ := both e
  obtain ⟨e, h3⟩ := both e
  obtain ⟨e, h2⟩ := both e
  obtain ⟨h0, h1⟩ := both e
  exact {
    slots := fun b k d => reals x0 _ _ _ _ h0 _
    masks := fun b k p => aboves x1 _ _ _ _ h1 _
    win := fun d j => reals x2 _ _ _ _ h2 _
    bin := fun d => reals x3 _ _ _ _ h3 _
    pos := fun p d => reals x4 _ _ _ _ h4 _
    dec := fun o d => reals x5 _ _ _ _ h5 _
    bdec := fun o => reals x6 _ _ _ _ h6 _ }

end Cert.PreFacts

end
-- ==== Proof.lean ====
/-
  The proof of `Cert.Claim`: all three programs run and leave their arguments alone, the idealized kernel is the kernel's own text,
  and over the extended reals, from finite arguments, the kernel's two results are the reference's.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.Pre_finite
public import proofs.«01_k».proof.Proof.KernelRun
public import proofs.«01_k».proof.Proof.Equal
public import proofs.«01_k».proof.Proof.PreFacts
public import Idealize.ShloMosaic.Lib.Quiescent

@[expose] public section

set_option maxRecDepth 16384

noncomputable section

namespace Cert.Proof

open Idealize.ShloMosaic Idealize.ShloMosaic.TcCoe Idealize.ShloMosaic.Pointwise Idealize.SL.Sem

/-- The reference runs, leaves its arguments alone and has no semaphore. -/
theorem frame_r : Cert.quiescent_ReferenceIdeal (hReferenceIdeal := Cert.ReferenceIdeal.Gen.facts) := fun m g _ =>
  (θ_run _ _ _).mono (fun r h => ⟨fun c => (h c).2.2, sem_eq_zero_of_no_sems (by decide) r.2⟩) (Cert.ReferenceIdeal.Value.run m g)

/-- The reference's first result depends on its arguments only. -/
theorem v38_congr {x0 y0 x1 y1 x2 y2 x3 y3 x4 y4 x5 y5 x6 y6} (e0 : y0 = x0) (e1 : y1 = x1) (e2 : y2 = x2) (e3 : y3 = x3) (e4 : y4 = x4)
    (e5 : y5 = x5) (e6 : y6 = x6) :
    Cert.ReferenceIdeal.Read.val_main_v38 (F := Ideal) y0 y1 y2 y3 y4 y5 y6 = Cert.ReferenceIdeal.Read.val_main_v38 x0 x1 x2 x3 x4 x5 x6 := by
  subst e0; subst e1; subst e2; subst e3; subst e4; subst e5; subst e6; rfl

/-- So does its second. -/
theorem v66_congr {x0 y0 x1 y1 x2 y2 x3 y3 x4 y4 x5 y5 x6 y6} (e0 : y0 = x0) (e1 : y1 = x1) (e2 : y2 = x2) (e3 : y3 = x3) (e4 : y4 = x4)
    (e5 : y5 = x5) (e6 : y6 = x6) :
    Cert.ReferenceIdeal.Read.val_main_v66 (F := Ideal) y0 y1 y2 y3 y4 y5 y6 = Cert.ReferenceIdeal.Read.val_main_v66 x0 x1 x2 x3 x4 x5 x6 := by
  subst e0; subst e1; subst e2; subst e3; subst e4; subst e5; subst e6; rfl

/-- From finite arguments the kernel's two results are the reference's. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨fun c => Pipeline.afterTail₀ Cert.KernelIdeal.cfgs (Cert.KernelIdeal.Gen.dats m) 0 (Cert.KernelIdeal.Gen.V0 m)
      [Cert.KernelIdeal.Gen.hostOps1] c Cert.KernelIdeal.main_v0_0, fun c => KernelArray.maskArr m c, KernelRun.run m g, ?_⟩
  refine (θ_run _ _ _).mono (fun r h c => ?_) (Cert.ReferenceIdeal.Value.run m' g')
  obtain ⟨h38, h66, hargs⟩ := h c
  obtain ⟨e0, e1, e2, e3, e4, e5, e6⟩ := hagree c
  have hf := PreFacts.finite_of _ _ _ _ _ _ _ (hpre c)
  refine ⟨h38.trans ((Cert.ReferenceIdeal.Read.val_main_v38_eq m' c).trans ((v38_congr e0 e1 e2 e3 e4 e5 e6).trans
      (Equal.first _ _ _ _ _ _ _ hf _ fun b p o => KernelRun.tail_apply m c b p o))),
    h66.trans ((Cert.ReferenceIdeal.Read.val_main_v66_eq m' c).trans ((v66_congr e0 e1 e2 e3 e4 e5 e6).trans
      (Equal.second _ _ _ _ _ _ _ hf _ fun b k p => rfl))), hargs⟩

/-- Everything the certificate claims. -/
theorem claim : Cert.Claim :=
  ⟨Cert.Kernel.Gen.facts, Cert.KernelIdeal.Gen.facts, Cert.ReferenceIdeal.Gen.facts, Cert.Pre_finite.Gen.facts,
    fun m g _ => Cert.Kernel.Gen.frame m g, fun m g _ => Cert.KernelIdeal.Gen.frame m g, fun m g _ => Cert.KernelIdeal.Gen.frame m g,
    frame_r, fun m g _ => frame_r m g trivial, trivial, algebraic⟩

end Cert.Proof

end
